-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x4096 : Shape := ⟨2, ![8192, 4096]⟩
abbrev S2048x4096 : Shape := ⟨2, ![2048, 4096]⟩
abbrev S3x2048x2048 : Shape := ⟨3, ![3, 2048, 2048]⟩
abbrev S2048x2048 : Shape := ⟨2, ![2048, 2048]⟩
abbrev S2048x512 : Shape := ⟨2, ![2048, 512]⟩
abbrev S2 : Shape := ⟨1, ![2]⟩
abbrev S3 : Shape := ⟨1, ![3]⟩
abbrev S_ : Shape := ⟨0, ![]⟩
abbrev S1 : Shape := ⟨1, ![1]⟩
abbrev S1x2048x2048 : Shape := ⟨3, ![1, 2048, 2048]⟩

abbrev nBuf : Space → Nat
  | .hbm => 4
  | .vmem => 3
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .f32⟩
  | .hbm, ⟨2, _⟩ => ⟨S2048x4096, .f32⟩
  | .hbm, ⟨3, _⟩ => ⟨S3x2048x2048, .bf16⟩
  | .local _ .vmem, ⟨0, _⟩ => ⟨S2048x4096, .f32⟩
  | .local _ .vmem, ⟨1, _⟩ => ⟨S2048x2048, .bf16⟩
  | .local _ .vmem, ⟨2, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32 : BitVec 32 := 2048#32
  let v54 : BitVec 32 := Scalar.muli v53 c2048_i32
  let c0_i32_42 : BitVec 32 := 0#32
  ![v54.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v55 : BitVec 32 := Scalar.muli v53 c1_i32_38
  let v56 : BitVec 32 := Scalar.addi c0_i32_39 v55
  v56.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_54 : BitVec 32 := 1#32
  let v76 : BitVec 32 := Scalar.muli v74 c1_i32_54
  let v77 : BitVec 32 := Scalar.addi c0_i32_55 v76
  v77.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v85 : BitVec 32 := Scalar.addi v2 c3_i32_59
  let c4_i32_60 : BitVec 32 := 4#32
  let c0_i32_61 : BitVec 32 := 0#32
  let v86 : BitVec 1 := Scalar.cmpi .eq c4_i32_60 c0_i32_61
  let c1_i32_62 : BitVec 32 := 1#32
  let v87 : BitVec 32 := Scalar.select v86 c1_i32_62 c4_i32_60
  let v88 : BitVec 32 := Scalar.remsi v85 v87
  let c0_i32_64 : BitVec 32 := 0#32
  let v90 : BitVec 1 := Scalar.cmpi .slt v88 c0_i32_64
  let c0_i32_65 : BitVec 32 := 0#32
  let v91 : BitVec 1 := Scalar.cmpi .slt v87 c0_i32_65
  let v92 : BitVec 1 := Scalar.xori v90 v91
  let c0_i32_63 : BitVec 32 := 0#32
  let v89 : BitVec 1 := Scalar.cmpi .ne v88 c0_i32_63
  let v93 : BitVec 1 := Scalar.andi v92 v89
  let v94 : BitVec 32 := Scalar.addi v88 v87
  let v95 : BitVec 32 := Scalar.select v93 v94 v88
  let c1_i32_70 : BitVec 32 := 1#32
  let v97 : BitVec 32 := Scalar.muli v95 c1_i32_70
  let v98 : BitVec 32 := Scalar.addi c0_i32_71 v97
  v98.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_82 : BitVec 32 := 2048#32
  let v117 : BitVec 32 := Scalar.muli v2 c2048_i32_82
  let c0_i32_84 : BitVec 32 := 0#32
  ![v117.toNat, 0]
@[reducible] def k0_t1_loop : Scf.Loop 32 :=
  let c0_i32_87 : BitVec 32 := 0#32
  let c8_i32 : BitVec 32 := 8#32
  let v124 : BitVec 32 := Scalar.addi c0_i32_87 c8_i32
  let c1_i32_88 : BitVec 32 := 1#32
  ⟨c0_i32_87, v124, c1_i32_88⟩
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_75 : BitVec 32 := 0#32
  let v106 : BitVec 32 := Scalar.addi v2 c0_i32_75
  let c4_i32_76 : BitVec 32 := 4#32
  let c0_i32_77 : BitVec 32 := 0#32
  let v107 : BitVec 1 := Scalar.cmpi .eq c4_i32_76 c0_i32_77
  let c1_i32_78 : BitVec 32 := 1#32
  let v108 : BitVec 32 := Scalar.select v107 c1_i32_78 c4_i32_76
  let v109 : BitVec 32 := Scalar.remsi v106 v108
  let c0_i32_80 : BitVec 32 := 0#32
  let v111 : BitVec 1 := Scalar.cmpi .slt v109 c0_i32_80
  let c0_i32_81 : BitVec 32 := 0#32
  let v112 : BitVec 1 := Scalar.cmpi .slt v108 c0_i32_81
  let v113 : BitVec 1 := Scalar.xori v111 v112
  let c0_i32_79 : BitVec 32 := 0#32
  let v110 : BitVec 1 := Scalar.cmpi .ne v109 c0_i32_79
  let v114 : BitVec 1 := Scalar.andi v113 v110
  let v115 : BitVec 32 := Scalar.addi v109 v108
  let v116 : BitVec 32 := Scalar.select v114 v115 v109
  let c2048_i32_201 : BitVec 32 := 2048#32
  let v229 : BitVec 32 := Scalar.muli v116 c2048_i32_201
  let c0_i32_87 : BitVec 32 := 0#32
  let c1_i32_88 : BitVec 32 := 1#32
  let arg9 : BitVec 32 := Scf.iv c0_i32_87 c1_i32_88 k0_t1
  let c512_i32 : BitVec 32 := 512#32
  let v230 : BitVec 32 := Scalar.muli arg9 c512_i32
  ![v229.toNat, v230.toNat]
def k0_off4 (k0_t1 : Fin k0_t1_loop.trips) : Fin 2 → Nat :=
  let c0_210 : Index := 0#32
  let c0_i32_87 : BitVec 32 := 0#32
  let c1_i32_88 : BitVec 32 := 1#32
  let arg9 : BitVec 32 := Scf.iv c0_i32_87 c1_i32_88 k0_t1
  let c512_i32_209 : BitVec 32 := 512#32
  let v241 : BitVec 32 := Scalar.muli arg9 c512_i32_209
  let v242 : Index := Scalar.indexCast v241
  ![0, v242.toNat]
@[reducible] def k0_t2_loop : Scf.Loop 32 :=
  let c0_i32_115 : BitVec 32 := 0#32
  let c8_i32_116 : BitVec 32 := 8#32
  let v152 : BitVec 32 := Scalar.addi c0_i32_115 c8_i32_116
  let c1_i32_117 : BitVec 32 := 1#32
  ⟨c0_i32_115, v152, c1_i32_117⟩
def k0_off5 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_90 : BitVec 32 := 1#32
  let v125 : BitVec 32 := Scalar.addi v2 c1_i32_90
  let c4_i32_91 : BitVec 32 := 4#32
  let c0_i32_92 : BitVec 32 := 0#32
  let v126 : BitVec 1 := Scalar.cmpi .eq c4_i32_91 c0_i32_92
  let c1_i32_93 : BitVec 32 := 1#32
  let v127 : BitVec 32 := Scalar.select v126 c1_i32_93 c4_i32_91
  let v128 : BitVec 32 := Scalar.remsi v125 v127
  let c0_i32_95 : BitVec 32 := 0#32
  let v130 : BitVec 1 := Scalar.cmpi .slt v128 c0_i32_95
  let c0_i32_96 : BitVec 32 := 0#32
  let v131 : BitVec 1 := Scalar.cmpi .slt v127 c0_i32_96
  let v132 : BitVec 1 := Scalar.xori v130 v131
  let c0_i32_94 : BitVec 32 := 0#32
  let v129 : BitVec 1 := Scalar.cmpi .ne v128 c0_i32_94
  let v133 : BitVec 1 := Scalar.andi v132 v129
  let v134 : BitVec 32 := Scalar.addi v128 v127
  let v135 : BitVec 32 := Scalar.select v133 v134 v128
  let c2048_i32_201 : BitVec 32 := 2048#32
  let v229 : BitVec 32 := Scalar.muli v135 c2048_i32_201
  let c0_i32_115 : BitVec 32 := 0#32
  let c1_i32_117 : BitVec 32 := 1#32
  let arg9 : BitVec 32 := Scf.iv c0_i32_115 c1_i32_117 k0_t2
  let c512_i32 : BitVec 32 := 512#32
  let v230 : BitVec 32 := Scalar.muli arg9 c512_i32
  ![v229.toNat, v230.toNat]
def k0_off6 (k0_t2 : Fin k0_t2_loop.trips) : Fin 2 → Nat :=
  let c0_210 : Index := 0#32
  let c0_i32_115 : BitVec 32 := 0#32
  let c1_i32_117 : BitVec 32 := 1#32
  let arg9 : BitVec 32 := Scf.iv c0_i32_115 c1_i32_117 k0_t2
  let c512_i32_209 : BitVec 32 := 512#32
  let v241 : BitVec 32 := Scalar.muli arg9 c512_i32_209
  let v242 : Index := Scalar.indexCast v241
  ![0, v242.toNat]
@[reducible] def k0_t3_loop : Scf.Loop 32 :=
  let c0_i32_144 : BitVec 32 := 0#32
  let c8_i32_145 : BitVec 32 := 8#32
  let v180 : BitVec 32 := Scalar.addi c0_i32_144 c8_i32_145
  let c1_i32_146 : BitVec 32 := 1#32
  ⟨c0_i32_144, v180, c1_i32_146⟩
def k0_off7 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_119 : BitVec 32 := 3#32
  let v153 : BitVec 32 := Scalar.addi v2 c3_i32_119
  let c4_i32_120 : BitVec 32 := 4#32
  let c0_i32_121 : BitVec 32 := 0#32
  let v154 : BitVec 1 := Scalar.cmpi .eq c4_i32_120 c0_i32_121
  let c1_i32_122 : BitVec 32 := 1#32
  let v155 : BitVec 32 := Scalar.select v154 c1_i32_122 c4_i32_120
  let v156 : BitVec 32 := Scalar.remsi v153 v155
  let c0_i32_124 : BitVec 32 := 0#32
  let v158 : BitVec 1 := Scalar.cmpi .slt v156 c0_i32_124
  let c0_i32_125 : BitVec 32 := 0#32
  let v159 : BitVec 1 := Scalar.cmpi .slt v155 c0_i32_125
  let v160 : BitVec 1 := Scalar.xori v158 v159
  let c0_i32_123 : BitVec 32 := 0#32
  let v157 : BitVec 1 := Scalar.cmpi .ne v156 c0_i32_123
  let v161 : BitVec 1 := Scalar.andi v160 v157
  let v162 : BitVec 32 := Scalar.addi v156 v155
  let v163 : BitVec 32 := Scalar.select v161 v162 v156
  let c2048_i32_201 : BitVec 32 := 2048#32
  let v229 : BitVec 32 := Scalar.muli v163 c2048_i32_201
  let c0_i32_144 : BitVec 32 := 0#32
  let c1_i32_146 : BitVec 32 := 1#32
  let arg9 : BitVec 32 := Scf.iv c0_i32_144 c1_i32_146 k0_t3
  let c512_i32 : BitVec 32 := 512#32
  let v230 : BitVec 32 := Scalar.muli arg9 c512_i32
  ![v229.toNat, v230.toNat]
def k0_off8 (k0_t3 : Fin k0_t3_loop.trips) : Fin 2 → Nat :=
  let c0_210 : Index := 0#32
  let c0_i32_144 : BitVec 32 := 0#32
  let c1_i32_146 : BitVec 32 := 1#32
  let arg9 : BitVec 32 := Scf.iv c0_i32_144 c1_i32_146 k0_t3
  let c512_i32_209 : BitVec 32 := 512#32
  let v241 : BitVec 32 := Scalar.muli arg9 c512_i32_209
  let v242 : Index := Scalar.indexCast v241
  ![0, v242.toNat]
@[reducible] def k0_t4_loop : Scf.Loop 32 :=
  let c0_i32_173 : BitVec 32 := 0#32
  let c8_i32_174 : BitVec 32 := 8#32
  let v208 : BitVec 32 := Scalar.addi c0_i32_173 c8_i32_174
  let c1_i32_175 : BitVec 32 := 1#32
  ⟨c0_i32_173, v208, c1_i32_175⟩
def k0_off9 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_148 : BitVec 32 := 2#32
  let v181 : BitVec 32 := Scalar.addi v2 c2_i32_148
  let c4_i32_149 : BitVec 32 := 4#32
  let c0_i32_150 : BitVec 32 := 0#32
  let v182 : BitVec 1 := Scalar.cmpi .eq c4_i32_149 c0_i32_150
  let c1_i32_151 : BitVec 32 := 1#32
  let v183 : BitVec 32 := Scalar.select v182 c1_i32_151 c4_i32_149
  let v184 : BitVec 32 := Scalar.remsi v181 v183
  let c0_i32_153 : BitVec 32 := 0#32
  let v186 : BitVec 1 := Scalar.cmpi .slt v184 c0_i32_153
  let c0_i32_154 : BitVec 32 := 0#32
  let v187 : BitVec 1 := Scalar.cmpi .slt v183 c0_i32_154
  let v188 : BitVec 1 := Scalar.xori v186 v187
  let c0_i32_152 : BitVec 32 := 0#32
  let v185 : BitVec 1 := Scalar.cmpi .ne v184 c0_i32_152
  let v189 : BitVec 1 := Scalar.andi v188 v185
  let v190 : BitVec 32 := Scalar.addi v184 v183
  let v191 : BitVec 32 := Scalar.select v189 v190 v184
  let c2048_i32_201 : BitVec 32 := 2048#32
  let v229 : BitVec 32 := Scalar.muli v191 c2048_i32_201
  let c0_i32_173 : BitVec 32 := 0#32
  let c1_i32_175 : BitVec 32 := 1#32
  let arg9 : BitVec 32 := Scf.iv c0_i32_173 c1_i32_175 k0_t4
  let c512_i32 : BitVec 32 := 512#32
  let v230 : BitVec 32 := Scalar.muli arg9 c512_i32
  ![v229.toNat, v230.toNat]
def k0_off10 (k0_t4 : Fin k0_t4_loop.trips) : Fin 2 → Nat :=
  let c0_210 : Index := 0#32
  let c0_i32_173 : BitVec 32 := 0#32
  let c1_i32_175 : BitVec 32 := 1#32
  let arg9 : BitVec 32 := Scf.iv c0_i32_173 c1_i32_175 k0_t4
  let c512_i32_209 : BitVec 32 := 512#32
  let v241 : BitVec 32 := Scalar.muli arg9 c512_i32_209
  let v242 : Index := Scalar.indexCast v241
  ![0, v242.toNat]
abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .bf16⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.RingIdeal.lean ====
/-
The protocol of the kernel, written down: which device hands what to which at the barrier, what each remote copy
carries, and what each semaphore cell is worth. Device `c` of the four sends its rows meant for the device `q + 1`
places on into slot `q` of that device's gather buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the devices' own cells, their duties numbered below three. -/
abbrev UB : Type := URounds (GSem nD τ sig) (Fin 3)
/-- The staging library's copy, the devices' rounds, and the counters of local copies. -/
abbrev UU : Type := UR sig nD τ × (UB × Counters)

local notation "𝕄" => MT nD τ sig Unit (Elt F) ℕ UU ℕ

/-- The staging library's part of the algebra. -/
abbrev EP : Emb (UR sig nD τ) (MT nD τ sig Unit (Elt F) ℕ UU ℕ) := embL
/-- The devices' part of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' part of the algebra. -/
abbrev EC : UEmb Counters (MT nD τ sig Unit (Elt F) ℕ UU ℕ) := countersEmb

variable (m : (ℓ : Loc nD τ sig) → Buf (Elt F) ℓ) (ρ : Dev nD → PrngReg)

/-! ## The mesh of four -/

set_option backward.proofsInPublic true in
/-- The device `q + 1` places on from `c`. -/
def rot (q : Fin 3) (c : Dev nD) : Dev nD := ⟨(c.val + (q.val + 1)) % 4, Nat.mod_lt _ (by decide)⟩

/-- Going on by `q + 1` and by the complement comes round. -/
theorem rot_rev (q : Fin 3) (c : Dev nD) : rot q.rev (rot q c) = c := by revert q c; decide
/-- The same the other way about. -/
theorem rev_rot (q : Fin 3) (c : Dev nD) : rot q (rot q.rev c) = c := by revert q c; decide
/-- Going on by `q + 1`, as a permutation of the devices. -/
def rotE (q : Fin 3) : Dev nD ≃ Dev nD := ⟨rot q, rot q.rev, rot_rev q, rev_rot q⟩

theorem dev1_eq (c : Dev nD) : (⟨k0_dev1 c, k0_dev1_lt c⟩ : Dev nD) = rot 0 c := by revert c; decide +kernel
theorem dev2_eq (c : Dev nD) : (⟨k0_dev2 c, k0_dev2_lt c⟩ : Dev nD) = rot 1 c := by revert c; decide +kernel
theorem dev3_eq (c : Dev nD) : (⟨k0_dev3 c, k0_dev3_lt c⟩ : Dev nD) = rot 2 c := by revert c; decide +kernel
theorem dev4_eq (c : Dev nD) : (⟨k0_dev4 c, k0_dev4_lt c⟩ : Dev nD) = rot 0 c := by revert c; decide +kernel
theorem dev5_eq (c : Dev nD) : (⟨k0_dev5 c, k0_dev5_lt c⟩ : Dev nD) = rot 1 c := by revert c; decide +kernel
theorem dev6_eq (c : Dev nD) : (⟨k0_dev6 c, k0_dev6_lt c⟩ : Dev nD) = rot 2 c := by revert c; decide +kernel

/-- The rows a device sends `q + 1` places on start at that device's block. -/
theorem off1_0 (c : Dev nD) : k0_off1 c 1#32 = ![2048 * (rot 0 c).val, 0] := by revert c; decide +kernel
theorem off1_1 (c : Dev nD) : k0_off1 c 2#32 = ![2048 * (rot 1 c).val, 0] := by revert c; decide +kernel
theorem off1_2 (c : Dev nD) : k0_off1 c 3#32 = ![2048 * (rot 2 c).val, 0] := by revert c; decide +kernel

/-- Each loop makes eight trips. -/
theorem trips1 : k0_t1_loop.trips = 8 := by decide +kernel
theorem trips2 : k0_t2_loop.trips = 8 := by decide +kernel
theorem trips3 : k0_t3_loop.trips = 8 := by decide +kernel
theorem trips4 : k0_t4_loop.trips = 8 := by decide +kernel

/-- The tile of the second operand a trip takes, loop by loop. -/
theorem off3_eq (c : Dev nD) (t : Fin k0_t1_loop.trips) : k0_off3 c t = ![2048 * c.val, 512 * t.val] := by
  revert c t; decide +kernel
theorem off5_eq (c : Dev nD) (t : Fin k0_t2_loop.trips) : k0_off5 c t = ![2048 * (rot 0 c).val, 512 * t.val] := by
  revert c t; decide +kernel
theorem off7_eq (c : Dev nD) (t : Fin k0_t3_loop.trips) : k0_off7 c t = ![2048 * (rot 2 c).val, 512 * t.val] := by
  revert c t; decide +kernel
theorem off9_eq (c : Dev nD) (t : Fin k0_t4_loop.trips) : k0_off9 c t = ![2048 * (rot 1 c).val, 512 * t.val] := by
  revert c t; decide +kernel

/-! ## The memrefs and cells -/

abbrev xM : Memref sig .tc .hbm S8192x2048 .bf16 := Memref.whole main_arg0
abbrev wM : Memref sig .tc .hbm S8192x4096 .f32 := Memref.whole main_arg1
abbrev oM : Memref sig .tc .vmem S2048x4096 .f32 := Memref.whole cc0_stg0_0
abbrev gM : Memref sig .tc .hbm S3x2048x2048 .bf16 := Memref.whole main_v1_1
abbrev bM : Memref sig .tc .vmem S2048x2048 .bf16 := Memref.whole cc0_scratch0
abbrev tM : Memref sig .tc .vmem S2048x512 .f32 := Memref.whole cc0_scratch1

set_option backward.proofsInPublic true in
theorem row_inb (t : Fin 4) : ∀ a, (![2048 * t.val, 0] : Fin 2 → Nat) a + S2048x2048.size a ≤ S8192x2048.size a := by
  revert t; decide
set_option backward.proofsInPublic true in
theorem slot_inb (q : Fin 3) : ∀ a, (![q.val, 0, 0] : Fin 3 → Nat) a + S1x2048x2048.size a ≤ S3x2048x2048.size a := by
  revert q; decide
set_option backward.proofsInPublic true in
theorem wt_inb (j : Fin 4) (t : Fin 8) : ∀ a, (![2048 * j.val, 512 * t.val] : Fin 2 → Nat) a + S2048x512.size a ≤ S8192x4096.size a := by
  revert j t; decide
set_option backward.proofsInPublic true in
theorem tile_inb (t : Fin 8) : ∀ a, (![0, 512 * t.val] : Fin 2 → Nat) a + S2048x512.size a ≤ S2048x4096.size a := by
  revert t; decide

/-- The rows of a device's first operand that make up row block `t`. -/
def rowM (t : Fin 4) : Memref sig .tc .hbm S2048x2048 .bf16 :=
  xM.slice (Rect.unit (s := S8192x2048) ![2048 * t.val, 0] S2048x2048.size (row_inb t)) (fun _ => rfl)
/-- Slot `q` of the gather buffer. -/
def slotM (q : Fin 3) : Memref sig .tc .hbm S2048x2048 .bf16 :=
  (gM.slice (Rect.unit (s := S3x2048x2048) ![q.val, 0, 0] S1x2048x2048.size (slot_inb q)) (fun _ => rfl)).squeeze S2048x2048
    squeezes_S1x2048x2048_S2048x2048
/-- Tile `t` of row block `j` of the second operand. -/
def wtM (j : Fin 4) (t : Fin 8) : Memref sig .tc .hbm S2048x512 .f32 :=
  wM.slice (Rect.unit (s := S8192x4096) ![2048 * j.val, 512 * t.val] S2048x512.size (wt_inb j t)) (fun _ => rfl)
/-- Tile `t` of the result: its columns from `512 t` on. -/
def tileR (t : Fin 8) : Rect S2048x4096 := Rect.unit (s := S2048x4096) ![0, 512 * t.val] S2048x512.size (tile_inb t)

/-- The runtime's barrier semaphore; the send, the receive and the local copies' semaphores. -/
abbrev barS : Sem sig := (SemArray.scalar (sig.barrier 0 rfl) : Sems sig S_).sem
def sendS (q : Fin 3) : DmaSem sig := ⟨3 + q.val, by have := q.isLt; show _ < 9; omega⟩
def recvS (q : Fin 3) : DmaSem sig := ⟨6 + q.val, by have := q.isLt; show _ < 9; omega⟩
def locS (q : Fin 2) : DmaSem sig := ⟨1 + q.val, by have := q.isLt; show _ < 9; omega⟩

abbrev barCell (c : Dev nD) : GSem nD τ sig := ((c : Thread nD τ), .reg barS)
abbrev sendCell (c : Dev nD) (q : Fin 3) : GSem nD τ sig := ((c : Thread nD τ), .dma (sendS q))
abbrev recvCell (c : Dev nD) (q : Fin 3) : GSem nD τ sig := ((c : Thread nD τ), .dma (recvS q))
abbrev locCell (c : Dev nD) (q : Fin 2) : GSem nD τ sig := ((c : Thread nD τ), .dma (locS q))

/-- The seven cells of a device the protocol runs on: barrier, three send, three receive. -/
def csem : Fin 7 → SemLoc sig := ![.reg barS, .dma (sendS 0), .dma (sendS 1), .dma (sendS 2), .dma (recvS 0), .dma (recvS 1), .dma (recvS 2)]
abbrev kcell (ck : Dev nD × Fin 7) : GSem nD τ sig := ((ck.1 : Thread nD τ), csem ck.2)
/-- A device's own eight scoped semaphores. -/
def osem : Fin 8 → SemLoc sig := ![.dma (locS 0), .dma (locS 1), .dma (sendS 0), .dma (sendS 1), .dma (sendS 2), .dma (recvS 0), .dma (recvS 1), .dma (recvS 2)]
def sIx (q : Fin 3) : Fin 7 := ⟨1 + q.val, by omega⟩
def vIx (q : Fin 3) : Fin 7 := ⟨4 + q.val, by omega⟩
theorem kcell_bar (c : Dev nD) : kcell (c, 0) = barCell c := rfl
theorem kcell_send (c : Dev nD) (q : Fin 3) : kcell (c, sIx q) = sendCell c q := by fin_cases q <;> rfl
theorem kcell_recv (c : Dev nD) (q : Fin 3) : kcell (c, vIx q) = recvCell c q := by fin_cases q <;> rfl

/-- What one block of rows is worth on a semaphore, whichever slot it goes to. -/
def N : ℕ := (slotM 0).view.dmaCredit
theorem N_pos : 0 < N := View.dmaCredit_pos _ (by decide)
theorem slot_credit (q : Fin 3) : (slotM q).view.dmaCredit = N := rfl
theorem row_credit (t : Fin 4) : (rowM t).view.dmaCredit = N := rfl

/-! ## Contents and ownership -/

/-- Row block `t` of device `s`'s first operand, as launched. -/
def xBlk (s : Dev nD) (t : Fin 4) : S2048x2048.Idx → Elt F .bf16 :=
  (rowM t).view.read (Elt F) (m ((rowM t).view.loc (s : Thread nD τ)))
/-- Tile `t` of row block `j` of device `c`'s second operand, as launched. -/
def wBlk (c : Dev nD) (j : Fin 4) (t : Fin 8) : S2048x512.Idx → Elt F .f32 :=
  (wtM j t).view.read (Elt F) (m ((wtM j t).view.loc (c : Thread nD τ)))

/-- Device `c` holds row block `t` of its first operand, as launched. -/
def rowPts (c : Dev nD) (t : Fin 4) : sProp 𝕄 :=
  (rowM t).view.loc (c : Thread nD τ) ↦[(rowM t).view.set]{fullShare} m ((rowM t).view.loc (c : Thread nD τ))
/-- Device `c` holds slot `q` of its gather buffer at contents `f`. -/
def slotPts (c : Dev nD) (q : Fin 3) (f : Buf (Elt F) ((slotM q).view.loc (c : Thread nD τ))) : sProp 𝕄 :=
  (slotM q).view.loc (c : Thread nD τ) ↦[(slotM q).view.set]{fullShare} f

omit [FloatOps F] in
instance rowPts_storable (c : Dev nD) (t) : BI.Storable (upEmb : UEmb _ 𝕄) (rowPts (F := F) m c t) := by unfold rowPts; infer_instance
omit [FloatOps F] in
instance slotPts_storable (c : Dev nD) (q f) : BI.Storable (upEmb : UEmb _ 𝕄) (slotPts (F := F) c q f) := by unfold slotPts; infer_instance

/-- What the device owning slot `q` hands over: the slot at any contents, and that its receive cell is at its start. -/
def handOver (d : Dev nD) (q : Fin 3) : sProp 𝕄 := iprop((∃ f, slotPts (F := F) d q f) ∗ reached ER (recvCell d q) 0)
/-- What duty `i` of device `e`'s barrier hands `e`: the slot it will send into, of the device that many places on. -/
def barPay (e : Dev nD) (i : Fin 3) : sProp 𝕄 := handOver (rot i.rev e) i.rev
/-- What arrives with slot `q`: the slot, reading as the sender's rows meant for `c`. -/
def recvPay (c : Dev nD) (q : Fin 3) : sProp 𝕄 :=
  iprop(∃ f, ⌜(slotM q).view.read (Elt F) f = xBlk m (rot q.rev c) c⌝ ∗ slotPts c q f)
/-- What comes back when a send is done: the rows sent. -/
def sendPay (c : Dev nD) (q : Fin 3) : sProp 𝕄 := rowPts m c (rot q c)

/-! ## The schedule -/

/-- The duties of a cell: three on a barrier, one on a send or receive cell. -/
def dutySet : SemLoc sig → Finset (Fin 3)
  | .reg _ => Finset.univ
  | .dma s => if 3 ≤ s.val then {0} else ∅
/-- What a duty of a device's cell pays over. -/
def pay (c : Dev nD) (d : Fin 3) : SemLoc sig → sProp 𝕄
  | .reg _ => barPay c d
  | .dma s => if h : 6 ≤ s.val then recvPay m c ⟨s.val - 6, by have : s.val < 9 := s.isLt; omega⟩
      else if h : 3 ≤ s.val then sendPay m c ⟨s.val - 3, by omega⟩ else iprop(emp)

/-- The schedule: one round per cell. -/
def Rd : Rounds.Schedule (GSem nD τ sig) (Fin 3) 𝕄 where
  duties g r := if r = 0 ∧ g.1.2 = .tc then dutySet g.2 else ∅
  unitless _ := False
  amount g _ _ := if g.2 = .reg barS then 1 else N
  payload g _ d := pay m g.1.1 d g.2
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (pay m g.1.1 d g.2)
  unfold pay barPay recvPay sendPay handOver
  (repeat' split) <;> infer_instance

section Sched
variable (c : Dev nD) (q : Fin 3)

omit [FloatOps F] in
theorem duties_bar : (Rd (F := F) m).duties (barCell c) 0 = Finset.univ := rfl
omit [FloatOps F] in
theorem duties_send : (Rd (F := F) m).duties (sendCell c q) 0 = {0} := by fin_cases q <;> rfl
omit [FloatOps F] in
theorem duties_recv : (Rd (F := F) m).duties (recvCell c q) 0 = {0} := by fin_cases q <;> rfl
omit [FloatOps F] in
theorem duties_later (g : GSem nD τ sig) : ∀ r, 1 ≤ r → (Rd (F := F) m).duties g r = ∅ :=
  fun r hr => by dsimp only [Rd]; rw [if_neg fun h => by omega]
omit [FloatOps F] in
theorem amount_bar (d : Fin 3) : (Rd (F := F) m).amount (barCell c) 0 d = 1 := by dsimp only [Rd]; exact if_pos rfl
omit [FloatOps F] in
theorem amount_send (d : Fin 3) : (Rd (F := F) m).amount (sendCell c q) 0 d = N := by dsimp only [Rd]; exact if_neg (fun h => by cases h)
omit [FloatOps F] in
theorem amount_recv (d : Fin 3) : (Rd (F := F) m).amount (recvCell c q) 0 d = N := by dsimp only [Rd]; exact if_neg (fun h => by cases h)
omit [FloatOps F] in
theorem expect_bar : (Rd (F := F) m).expect (barCell c) 0 = 3 := by
  unfold Schedule.expect Schedule.amountOf
  rw [duties_bar, Finset.sum_congr rfl fun d _ => amount_bar m c d]; rfl
omit [FloatOps F] in
theorem expect_send : (Rd (F := F) m).expect (sendCell c q) 0 = N := by
  unfold Schedule.expect Schedule.amountOf; rw [duties_send, Finset.sum_singleton, amount_send]
omit [FloatOps F] in
theorem expect_recv : (Rd (F := F) m).expect (recvCell c q) 0 = N := by
  unfold Schedule.expect Schedule.amountOf; rw [duties_recv, Finset.sum_singleton, amount_recv]
omit [FloatOps F] in
theorem payload_bar (d : Fin 3) : (Rd (F := F) m).payload (barCell c) 0 d = barPay c d := rfl
omit [FloatOps F] in
theorem payload_send (d : Fin 3) : (Rd (F := F) m).payload (sendCell c q) 0 d = sendPay m c q := by fin_cases q <;> rfl
omit [FloatOps F] in
theorem payload_recv (d : Fin 3) : (Rd (F := F) m).payload (recvCell c q) 0 d = recvPay m c q := by fin_cases q <;> rfl

omit [FloatOps F] in
/-- The barrier's whole round: the three slots the device is to send into, slot `0` first. -/
theorem rest_bar : bigSep ((Rd (F := F) m).duties (barCell c) 0 \ ∅) (fun d => (Rd (F := F) m).payload (barCell c) 0 d)
    = iprop(handOver (rot 0 c) 0 ∗ handOver (rot 1 c) 1 ∗ handOver (rot 2 c) 2) := by
  rw [Finset.sdiff_empty, duties_bar, bigSep_univ_eq_bigSepL [2, 1, 0] (by decide) (by decide)]; rfl
omit [FloatOps F] in
theorem rest_send : bigSep ((Rd (F := F) m).duties (sendCell c q) 0 \ ∅) (fun d => (Rd (F := F) m).payload (sendCell c q) 0 d) = sendPay m c q := by
  rw [Finset.sdiff_empty, duties_send, bigSep_singleton, payload_send]
omit [FloatOps F] in
theorem rest_recv : bigSep ((Rd (F := F) m).duties (recvCell c q) 0 \ ∅) (fun d => (Rd (F := F) m).payload (recvCell c q) 0 d) = recvPay m c q := by
  rw [Finset.sdiff_empty, duties_recv, bigSep_singleton, payload_recv]

end Sched

/-! ## What each core owes at launch; the levels -/

/-- What device `c` owes once its signals are out: the three blocks, in the order it sends them. -/
def Os2 (c : Dev nD) : CellTallies nD τ sig Unit := 0 + tallyAt (recvCell (rot 2 c) 2) () N
def Os1 (c : Dev nD) : CellTallies nD τ sig Unit := Os2 c + tallyAt (recvCell (rot 1 c) 1) () N
def Os0 (c : Dev nD) : CellTallies nD τ sig Unit := Os1 c + tallyAt (recvCell (rot 0 c) 0) () N
/-- And before them: the three signals. -/
def Ob2 (c : Dev nD) : CellTallies nD τ sig Unit := Os0 c + tallyAt (barCell (rot 2 c)) () 1
def Ob1 (c : Dev nD) : CellTallies nD τ sig Unit := Ob2 c + tallyAt (barCell (rot 1 c)) () 1
def O₀ (c : Dev nD) : CellTallies nD τ sig Unit := Ob1 c + tallyAt (barCell (rot 0 c)) () 1

def L (g : GSem nD τ sig) : Finset Unit := if g.1.2 = .tc then {()} else ∅
/-- Barrier cells at 1, receive cells at 2, everything else at 0. -/
def lvS : SemLoc sig → ℕ
  | .reg _ => 1
  | .dma s => if 6 ≤ s.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (q : Fin 3) : lv (recvCell c q) () = 2 := if_pos (Nat.le_add_right _ _)

/-- A cell owed anything once the signals are out is a receive cell of the device it is sent to; -/
theorem Os0_pos {c : Dev nD} {g : GSem nD τ sig} {u : Unit} (h : 0 < Os0 c g u) : ∃ q : Fin 3, g = recvCell (rot q c) q := by
  unfold Os0 Os1 Os2 at h
  simp only [Pi.add_apply, Finsupp.add_apply, tallyAt_apply, zero_add] at h
  by_contra hn
  rw [if_neg (fun h' => hn ⟨2, h'.1⟩), if_neg (fun h' => hn ⟨1, h'.1⟩), if_neg (fun h' => hn ⟨0, h'.1⟩)] at h
  exact absurd h (by simp)
/-- before them, such a cell or a barrier. -/
theorem O₀_pos {c : Dev nD} {g : GSem nD τ sig} {u : Unit} (h : 0 < O₀ c g u) :
    (∃ q : Fin 3, g = recvCell (rot q c) q) ∨ ∃ q : Fin 3, g = barCell (rot q c) := by
  by_contra hn
  rw [not_or] at hn
  have h0 : Os0 c g u = 0 := Nat.eq_zero_of_not_pos fun hp => hn.1 (Os0_pos hp)
  unfold O₀ Ob1 Ob2 at h
  simp only [Pi.add_apply, Finsupp.add_apply, tallyAt_apply] at h
  rw [h0, if_neg (fun h' => hn.2 ⟨2, h'.1⟩), if_neg (fun h' => hn.2 ⟨1, h'.1⟩), if_neg (fun h' => hn.2 ⟨0, h'.1⟩)] at h
  exact absurd h (by simp)

omit [FloatOps F] in
/-- The staging semaphore may be waited for at launch and at the end. -/
theorem mayWait_stage (c : Dev nD) (s : DmaSem sig) (hs : s.val < 6) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨q, rfl⟩ | ⟨q, rfl⟩ <;> exact Finset.mem_singleton_self _)
      (fun p hp => by rw [Finset.mem_singleton.mp hp]; exact le_of_eq (if_neg (by omega)))
      (fun g u hg => by
        rcases O₀_pos hg with ⟨q, rfl⟩ | ⟨q, rfl⟩
        · rw [lv_recv]; decide
        · show 0 < 1; decide)
  · rw [MayWait_zero]; iintro -; iempintro

omit [FloatOps F] in
/-- At its barrier a device owes the three blocks only, all at cells above it. -/
theorem mayWait_bar (c : Dev nD) : (levAts L lv : sProp 𝕄) ⊢ MayWait (c : Thread nD τ) (.reg barS) () (Os0 c) :=
  MayOwe.of_cut (L := L) (lev := lv) 1 (fun p hp => by rw [Finset.mem_singleton.mp hp, L_tc]; exact Finset.mem_singleton_self _)
    (fun g u hg => by obtain ⟨q, rfl⟩ := Os0_pos hg; exact Finset.mem_singleton_self _)
    (fun p hp => by rw [Finset.mem_singleton.mp hp]; exact le_refl 1)
    (fun g u hg => by obtain ⟨q, rfl⟩ := Os0_pos hg; rw [lv_recv]; decide)

end Cert.KernelIdeal.Ring

end
-- ==== Proof.TilesIdeal.lean ====
/-
The result's eight column tiles, and one trip of each of the four loops: it copies one tile of the second operand in,
multiplies the block of rows held by it, and writes (or adds to) the same tile of the result.
-/
module

public import proofs.«01_k».proof.Proof.RingIdeal
public import Idealize.ShloMosaic.Lib.Pipeline.ValueKit.Geometry

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Tiles of the result -/

/-- The contents of a result buffer. -/
abbrev Out (F : FTy → Type) : Type := S2048x4096.Idx → Elt F .f32
/-- The contents of one tile of it. -/
abbrev Tl (F : FTy → Type) : Type := S2048x512.Idx → Elt F .f32

/-- Tile `t` of the contents `G`. -/
def tileOf (G : Out F) (t : Fin 8) : Tl F := oM.view.readAt (Elt F) (tileR t).toLoadRect G
/-- `G` with tile `t` replaced. -/
def tilePut (G : Out F) (t : Fin 8) (P : Tl F) : Out F := (oM.access (tileR t)).write (Elt F) G P Finset.univ
/-- The contents whose tiles are `P`. -/
def tiled (P : Fin 8 → Tl F) : Out F :=
  fun i => P ⟨(i 1).val / 512, by have := idx2_lt1 i; omega⟩ (ix2 (i 0) ⟨(i 1).val % 512, Nat.mod_lt _ (by decide)⟩)
/-- The first `k` tiles from `G1`, the others from `G0`. -/
def mix (k : ℕ) (G0 G1 : Out F) : Out F := fun i => if (i 1).val < 512 * k then G1 i else G0 i

omit [FloatOps F] in
theorem mix_zero (G0 G1 : Out F) : mix 0 G0 G1 = G0 := funext fun i => if_neg (by omega)
omit [FloatOps F] in
theorem mix_eight (G0 G1 : Out F) : mix 8 G0 G1 = G1 :=
  funext fun i => if_pos (by have := idx2_lt1 i; omega)

/-- Where position `p` of tile `t` lies. -/
theorem tile_emb (t : Fin 8) (p : S2048x512.Idx) :
    (tileR t).emb p = (ix2 (p 0) ⟨512 * t.val + (p 1).val, by have := idx2_lt1 p; have := t.isLt; omega⟩ : S2048x4096.Idx) := by
  funext a
  refine Fin.ext ((ValueKit.rect_emb_unit_val _ _ _ p a).trans ?_)
  fin_cases a
  · exact Nat.zero_add _
  · rfl

omit [FloatOps F] in
/-- A tile read pointwise. -/
theorem tileOf_apply (G : Out F) (t : Fin 8) (p : S2048x512.Idx) :
    tileOf G t p = G (ix2 (p 0) ⟨512 * t.val + (p 1).val, by have := idx2_lt1 p; have := t.isLt; omega⟩) := by
  rw [← tile_emb]; rfl

omit [FloatOps F] in
/-- A tile not yet reached reads as it was. -/
theorem tileOf_mix (t : Fin 8) (G0 G1 : Out F) : tileOf (mix t.val G0 G1) t = tileOf G0 t := by
  funext p; rw [tileOf_apply, tileOf_apply]; exact if_neg (by simp [ix2])

omit [FloatOps F] in
/-- Writing the next tile goes one tile further. -/
theorem tilePut_mix (t : Fin 8) (G0 : Out F) (P : Fin 8 → Tl F) :
    tilePut (mix t.val G0 (tiled P)) t (P t) = mix (t.val + 1) G0 (tiled P) := by
  funext i
  have hi1 := idx2_lt1 i
  by_cases h : 512 * t.val ≤ (i 1).val ∧ (i 1).val < 512 * t.val + 512
  · have e : i = (tileR t).emb (ix2 (i 0) ⟨(i 1).val - 512 * t.val, by omega⟩ : S2048x512.Idx) := by
      rw [tile_emb]
      refine (eq_ix2 i).trans ?_
      exact congrArg (ix2 (i 0)) (Fin.ext (by show (i 1).val = 512 * t.val + ((i 1).val - 512 * t.val); omega))
    have hw : tilePut (mix t.val G0 (tiled P)) t (P t) i = P t (ix2 (i 0) ⟨(i 1).val - 512 * t.val, by omega⟩) := by
      conv_lhs => rw [e]
      exact View.write_emb_of_mem (v := oM.access (tileR t)) _ _ (Finset.mem_univ _)
    rw [hw, mix, if_pos (by omega)]
    unfold tiled
    have h1 : (i 1).val / 512 = t.val := by omega
    have h2 : (i 1).val % 512 = (i 1).val - 512 * t.val := by omega
    have hP : ∀ (a b : Fin 8) (x y : S2048x512.Idx), a = b → x = y → P a x = P b y := by rintro _ _ _ _ rfl rfl; rfl
    exact hP _ _ _ _ (Fin.ext h1.symm) (congrArg (ix2 (i 0)) (Fin.ext h2.symm))
  · have hn : tilePut (mix t.val G0 (tiled P)) t (P t) i = mix t.val G0 (tiled P) i := by
      refine View.write_of_not_mem (v := oM.access (tileR t)) _ _ _ fun hm => h ?_
      have hm' : i ∈ (tileR t).set := by rw [← View.set_slice_whole cc0_stg0_0 (tileR t)]; exact hm
      have := Rect.mem_set_unit.mp hm' 1
      exact this
    rw [hn]
    unfold mix
    by_cases h' : (i 1).val < 512 * t.val
    · rw [if_pos h', if_pos (by omega)]
    · rw [if_neg h', if_neg (by omega)]

/-- What the first loop leaves: the product of `X` by row block `j` of the second operand, tile by tile. -/
def prodAt (X : S2048x2048.Idx → Elt F .bf16) (c j : Fin 4) : Out F := tiled fun t => k0_pay2 X (wBlk m c j t)
/-- What a later loop leaves: the product added to `G`, tile by tile. -/
def accAt (X : S2048x2048.Idx → Elt F .bf16) (c j : Fin 4) (G : Out F) : Out F :=
  tiled fun t => k0_pay3 X (wBlk m c j t) (tileOf G t)

/-! ## One local copy and the wait for it -/

/-- A local copy waited for at once: the destination holds what the source reads, and everything else comes back. -/
theorem copy_wait {s : Shape} {e : EltTy} {sp sp' : Space} {src : Memref sig .tc sp s e} {dst : Memref sig .tc sp' s e}
    {sm sm' : DmaSem sig} {s1 : Shape} {e1 : EltTy} {sp1 : Space} {srcw : Memref sig .tc sp1 s1 e1}
    {hs : src.view.WordExact} {hd : dst.view.WordExact} {hsem : DmaTarget.Typed (nD := nD) (p := Proc.tc) sp (SemLoc.dma sm) (.here dst)} {hs' : srcw.view.WordExact} {hd' : dst.view.WordExact} {α : Type}
    {k : PUnit.{1} → Prog (TpuEff nD τ sig (Elt F) Λ₀ .tc) α} {Q : α → sProp 𝕄} (c : Dev nD)
    (hsm : sm' = sm) (hpos : 0 < dst.view.dmaCredit) {q : PosShare TreeShare} {S : Finset _} (hS : src.view.set ⊆ S)
    {fs : Buf (Elt F) (src.view.loc (c : Thread nD τ))} {W : Waits sig Unit}
    (w : Buf (Elt F) (dst.view.loc (c : Thread nD τ))) (hw : ∀ fd, dst.view.write (Elt F) fd (src.view.read (Elt F) fs) Finset.univ = w) :
    iprop((src.view.loc (c : Thread nD τ) ↦[S]{q} fs) ∗ (∃ fd, dst.view.loc (c : Thread nD τ) ↦{fullShare} fd)
        ∗ semVal ((c : Thread nD τ), SemLoc.dma sm) 0 ∗ owes (c : Thread nD τ) 0 W)
      ⊢ iprop((iprop((src.view.loc (c : Thread nD τ) ↦[S]{q} fs)
            ∗ (dst.view.loc (c : Thread nD τ) ↦{fullShare} w)
            ∗ semVal ((c : Thread nD τ), SemLoc.dma sm) 0 ∗ owes (c : Thread nD τ) 0 (insert (SemLoc.dma sm, ()) W))
          -∗ wp frame (wpE (defs₀ (F := F)) Variants.none (c : Thread nD τ) none) Set.univ (k ⟨⟩) Q)
        -∗ wp frame (wpE (defs₀ (F := F)) Variants.none (c : Thread nD τ) none) Set.univ
            (.op (.enqueueDma src (.here dst) (.dma sm) hs hd hsem) fun _ => .op (.waitDma2 sm' srcw dst hs' hd') k) Q) := by
  subst hsm
  iintro ⟨Hs, ⟨%fd, Hd⟩, Hv, HO⟩ Hk
  ihave Hs := (pointsTo_split_subset hS).1 $$ Hs
  icases Hs with ⟨Hs, Hrest⟩
  iapply (wp_dmaLocal EC Variants.none (c : Thread nD τ) none (via := .same) () dst.view.dmaCredit rfl hpos (Finset.subset_univ _)) $$ [Hs Hd Hv]
  · isplitl [Hs]; · iexact Hs
    isplitl [Hd]; · iexact Hd
    iexact Hv
  iintro HF
  iapply (wp_waitLocal EC Variants.none (c : Thread nD τ) none () (N := dst.view.dmaCredit) rfl) $$ [HF HO]
  · isplitl [HF]; · iexact HF
    iexact HO
  iintro ⟨HD, Hv, HO⟩
  rw [show (ReadAs.same : ReadAs (Elt F) s e s e).apply (src.view.read (Elt F) fs) = src.view.read (Elt F) fs from rfl, hw]
  icases HD with ⟨Hd, Hs⟩
  iapply Hk
  isplitl [Hs Hrest]
  · iapply (pointsTo_split_subset hS).2
    isplitl [Hs]; · iexact Hs
    iexact Hrest
  isplitl [Hd]; · iexact Hd
  isplitl [Hv]; · iexact Hv
  iexact HO

/-! ## The trips -/

/-- What a loop runs on: the second operand, the rows held, the tile buffer, the result so far, the tile copy's semaphore. -/
def loopInv (c : Dev nD) (X : S2048x2048.Idx → Elt F .bf16) (G : Out F) : sProp 𝕄 :=
  iprop((wM.view.loc (c : Thread nD τ) ↦{fullShare} m (wM.view.loc (c : Thread nD τ)))
    ∗ (bM.view.loc (c : Thread nD τ) ↦{fullShare} X)
    ∗ (∃ f, tM.view.loc (c : Thread nD τ) ↦{fullShare} f)
    ∗ (oM.view.loc (c : Thread nD τ) ↦{fullShare} G)
    ∗ semVal (locCell c 1) 0
    ∗ ∃ W, owes (c : Thread nD τ) 0 W)

/-- The tile copy at the head of a trip. -/
theorem trip_copy {src srcw : Memref sig .tc .hbm S2048x512 .f32} {sm sm' : DmaSem sig} {hs : src.view.WordExact} {hd : tM.view.WordExact}
    {hsem : DmaTarget.Typed (nD := nD) (p := Proc.tc) .hbm (SemLoc.dma sm) (.here tM)} {hs' : srcw.view.WordExact} {hd' : tM.view.WordExact} {α : Type}
    {k : PUnit.{1} → Prog (TpuEff nD τ sig (Elt F) Λ₀ .tc) α} {Q : α → sProp 𝕄} (c j : Dev nD) (t : Fin 8)
    (hsrc : src = wtM j t) (hsm : sm = locS 1) (hsm' : sm' = locS 1) {X : S2048x2048.Idx → Elt F .bf16} {G : Out F} :
    loopInv m c X G
      ⊢ iprop((iprop((wM.view.loc (c : Thread nD τ) ↦{fullShare} m (wM.view.loc (c : Thread nD τ)))
            ∗ (bM.view.loc (c : Thread nD τ) ↦{fullShare} X)
            ∗ (tM.view.loc (c : Thread nD τ) ↦{fullShare} wBlk m c j t)
            ∗ (oM.view.loc (c : Thread nD τ) ↦{fullShare} G)
            ∗ semVal (locCell c 1) 0
            ∗ ∃ W, owes (c : Thread nD τ) 0 W)
          -∗ wp frame (wpE (defs₀ (F := F)) Variants.none (c : Thread nD τ) none) Set.univ (k ⟨⟩) Q)
        -∗ wp frame (wpE (defs₀ (F := F)) Variants.none (c : Thread nD τ) none) Set.univ
            (.op (.enqueueDma src (.here tM) (.dma sm) hs hd hsem) fun _ => .op (.waitDma2 sm' srcw tM hs' hd') k) Q) := by
  subst hsrc hsm hsm'
  unfold loopInv
  iintro ⟨Hw, Hb, Ht, Ho, Hv, %W, HO⟩ Hk
  iapply (copy_wait (src := wtM j t) (dst := tM) c rfl (View.dmaCredit_pos _ (by decide)) (Finset.subset_univ _)
    (fs := m (wM.view.loc (c : Thread nD τ))) (wBlk m c j t) (fun _ => View.write_whole_univ _ _ _)) $$ [Hw Ht Hv HO]
  · isplitl [Hw]; · iexact Hw
    isplitl [Ht]; · iexact Ht
    isplitl [Hv]; · iexact Hv
    iexact HO
  iintro ⟨Hw, Ht, Hv, HO⟩
  iapply Hk
  isplitl [Hw]; · iexact Hw
  isplitl [Hb]; · iexact Hb
  isplitl [Ht]; · iexact Ht
  isplitl [Ho]; · iexact Ho
  isplitl [Hv]; · iexact Hv
  iexists _; iexact HO

/-- The first loop's trip from there: two loads, the tile's load, the product stored over the tile. -/
theorem trip_first {offo : Fin 2 → ℕ} {inbo : ∀ a, offo a + S2048x512.size a ≤ S2048x4096.size a}
    {z1 z2 : Fin 2 → ℕ} {i1 : ∀ a, z1 a + S2048x2048.size a ≤ S2048x2048.size a} {i2 : ∀ a, z2 a + S2048x512.size a ≤ S2048x512.size a}
    {l1 : bM.view.LoadsAt (Rect.unit (s := S2048x2048) z1 S2048x2048.size i1).toLoadRect}
    {l2 : tM.view.LoadsAt (Rect.unit (s := S2048x512) z2 S2048x512.size i2).toLoadRect}
    {l3 : oM.view.LoadsAt (Rect.unit (s := S2048x4096) offo S2048x512.size inbo).toLoadRect} {st : (oM.access (Rect.unit (s := S2048x4096) offo S2048x512.size inbo)).Stores Finset.univ} {hm}
     {pay : (S2048x2048.Idx → Elt F .bf16) → Tl F → Tl F}
    (c j : Dev nD) (t : Fin 8) (hoff : offo = ![0, 512 * t.val]) (hz1 : z1 = fun _ => 0) (hz2 : z2 = fun _ => 0)
    {X : S2048x2048.Idx → Elt F .bf16} {G : Out F} {Q : Unit → sProp 𝕄}
    (hQ : loopInv m c X (tilePut G t (pay X (wBlk m c j t))) ⊢ Q ⟨⟩) :
    iprop((wM.view.loc (c : Thread nD τ) ↦{fullShare} m (wM.view.loc (c : Thread nD τ)))
            ∗ (bM.view.loc (c : Thread nD τ) ↦{fullShare} X)
            ∗ (tM.view.loc (c : Thread nD τ) ↦{fullShare} wBlk m c j t)
            ∗ (oM.view.loc (c : Thread nD τ) ↦{fullShare} G)
            ∗ semVal (locCell c 1) 0
            ∗ ∃ W, owes (c : Thread nD τ) 0 W)
      ⊢ wp frame (wpE (defs₀ (F := F)) Variants.none (c : Thread nD τ) none) Set.univ
          (.op (.load bM (Rect.unit (s := S2048x2048) z1 S2048x2048.size i1).toLoadRect l1) fun v237 =>
           .op (.load tM (Rect.unit (s := S2048x512) z2 S2048x512.size i2).toLoadRect l2) fun v238 =>
           .op (.load oM (Rect.unit (s := S2048x4096) offo S2048x512.size inbo).toLoadRect l3) fun _ =>
           .op (.store oM (Rect.unit (s := S2048x4096) offo S2048x512.size inbo) (pay v237 v238) Finset.univ st hm) fun _ =>
           .ret ⟨⟩) Q := by
  subst hoff hz1 hz2
  iintro ⟨Hw, Hb, Ht, Ho, Hv, HO⟩
  iapply (wp_load Variants.none (c : Thread nD τ) none Set.univ (m := bM) (Finset.subset_univ _)) $$ Hb
  iintro Hb
  iapply (wp_load Variants.none (c : Thread nD τ) none Set.univ (m := tM) (Finset.subset_univ _)) $$ Ht
  iintro Ht
  iapply (wp_load Variants.none (c : Thread nD τ) none Set.univ (m := oM) (Finset.subset_univ _)) $$ Ho
  iintro Ho
  rw [show bM.view.readAt (Elt F) (Rect.unit (s := S2048x2048) (fun _ => 0) S2048x2048.size i1).toLoadRect X = X
      from Memref.readAt_unit_zero (Elt F) cc0_scratch0 rfl i1 X,
    show tM.view.readAt (Elt F) (Rect.unit (s := S2048x512) (fun _ => 0) S2048x512.size i2).toLoadRect (wBlk m c j t) = wBlk m c j t
      from Memref.readAt_unit_zero (Elt F) cc0_scratch1 rfl i2 _]
  iapply (wp_store Variants.none (c : Thread nD τ) none Set.univ (m := oM) (r := tileR t) (f := G) (Finset.subset_univ _)) $$ [Ho]
  · iexact Ho
  iintro Ho
  rw [wp_ret]; imodintro
  iapply hQ
  unfold loopInv
  isplitl [Hw]; · iexact Hw
  isplitl [Hb]; · iexact Hb
  isplitl [Ht]; · iexists _; iexact Ht
  isplitl [Ho]; · iexact Ho
  isplitl [Hv]; · iexact Hv
  iexact HO

/-- A later loop's trip from there: the tile is loaded, and the product added to it stored over it. -/
theorem trip_later {offo : Fin 2 → ℕ} {inbo : ∀ a, offo a + S2048x512.size a ≤ S2048x4096.size a}
    {z1 z2 : Fin 2 → ℕ} {i1 : ∀ a, z1 a + S2048x2048.size a ≤ S2048x2048.size a} {i2 : ∀ a, z2 a + S2048x512.size a ≤ S2048x512.size a}
    {l1 : bM.view.LoadsAt (Rect.unit (s := S2048x2048) z1 S2048x2048.size i1).toLoadRect}
    {l2 : tM.view.LoadsAt (Rect.unit (s := S2048x512) z2 S2048x512.size i2).toLoadRect}
    {l3 l4 : oM.view.LoadsAt (Rect.unit (s := S2048x4096) offo S2048x512.size inbo).toLoadRect} {st : (oM.access (Rect.unit (s := S2048x4096) offo S2048x512.size inbo)).Stores Finset.univ} {hm}
     {pay : (S2048x2048.Idx → Elt F .bf16) → Tl F → Tl F → Tl F}
    (c j : Dev nD) (t : Fin 8) (hoff : offo = ![0, 512 * t.val]) (hz1 : z1 = fun _ => 0) (hz2 : z2 = fun _ => 0)
    {X : S2048x2048.Idx → Elt F .bf16} {G : Out F} {Q : Unit → sProp 𝕄}
    (hQ : loopInv m c X (tilePut G t (pay X (wBlk m c j t) (tileOf G t))) ⊢ Q ⟨⟩) :
    iprop((wM.view.loc (c : Thread nD τ) ↦{fullShare} m (wM.view.loc (c : Thread nD τ)))
            ∗ (bM.view.loc (c : Thread nD τ) ↦{fullShare} X)
            ∗ (tM.view.loc (c : Thread nD τ) ↦{fullShare} wBlk m c j t)
            ∗ (oM.view.loc (c : Thread nD τ) ↦{fullShare} G)
            ∗ semVal (locCell c 1) 0
            ∗ ∃ W, owes (c : Thread nD τ) 0 W)
      ⊢ wp frame (wpE (defs₀ (F := F)) Variants.none (c : Thread nD τ) none) Set.univ
          (.op (.load bM (Rect.unit (s := S2048x2048) z1 S2048x2048.size i1).toLoadRect l1) fun v237 =>
           .op (.load tM (Rect.unit (s := S2048x512) z2 S2048x512.size i2).toLoadRect l2) fun v238 =>
           .op (.load oM (Rect.unit (s := S2048x4096) offo S2048x512.size inbo).toLoadRect l3) fun v243 =>
           .op (.load oM (Rect.unit (s := S2048x4096) offo S2048x512.size inbo).toLoadRect l4) fun _ =>
           .op (.store oM (Rect.unit (s := S2048x4096) offo S2048x512.size inbo) (pay v237 v238 v243) Finset.univ st hm) fun _ =>
           .ret ⟨⟩) Q := by
  subst hoff hz1 hz2
  iintro ⟨Hw, Hb, Ht, Ho, Hv, HO⟩
  iapply (wp_load Variants.none (c : Thread nD τ) none Set.univ (m := bM) (Finset.subset_univ _)) $$ Hb
  iintro Hb
  iapply (wp_load Variants.none (c : Thread nD τ) none Set.univ (m := tM) (Finset.subset_univ _)) $$ Ht
  iintro Ht
  iapply (wp_load Variants.none (c : Thread nD τ) none Set.univ (m := oM) (Finset.subset_univ _)) $$ Ho
  iintro Ho
  iapply (wp_load Variants.none (c : Thread nD τ) none Set.univ (m := oM) (Finset.subset_univ _)) $$ Ho
  iintro Ho
  rw [show bM.view.readAt (Elt F) (Rect.unit (s := S2048x2048) (fun _ => 0) S2048x2048.size i1).toLoadRect X = X
      from Memref.readAt_unit_zero (Elt F) cc0_scratch0 rfl i1 X,
    show tM.view.readAt (Elt F) (Rect.unit (s := S2048x512) (fun _ => 0) S2048x512.size i2).toLoadRect (wBlk m c j t) = wBlk m c j t
      from Memref.readAt_unit_zero (Elt F) cc0_scratch1 rfl i2 _]
  iapply (wp_store Variants.none (c : Thread nD τ) none Set.univ (m := oM) (r := tileR t) (f := G) (Finset.subset_univ _)) $$ [Ho]
  · iexact Ho
  iintro Ho
  rw [wp_ret]; imodintro
  iapply hQ
  unfold loopInv
  isplitl [Hw]; · iexact Hw
  isplitl [Hb]; · iexact Hb
  isplitl [Ht]; · iexists _; iexact Ht
  isplitl [Ho]; · iexact Ho
  isplitl [Hv]; · iexact Hv
  iexact HO

/-! ## The loops -/

/-- The tile a trip takes, whatever its offset is written as. -/
theorem wtM_of {off : Fin 2 → ℕ} {inb : ∀ a, off a + S2048x512.size a ≤ S8192x4096.size a} (j : Fin 4) (t : Fin 8)
    (h : off = ![2048 * j.val, 512 * t.val]) :
    wM.slice (Rect.unit (s := S8192x4096) off S2048x512.size inb) (fun _ => rfl) = wtM j t := by subst h; rfl

/-- One trip of the first loop. -/
theorem trip1 (c : Dev nD) (t : Fin 8) (tt : Fin k0_t1_loop.trips) (ht : tt.val = t.val) (v2 v95 : BitVec 32) (h0 h1 h2 h3 h4 h5)
    {X : S2048x2048.Idx → Elt F .bf16} {G : Out F} {Q : Unit → sProp 𝕄}
    (hQ : loopInv m c X (tilePut G t (k0_pay2 X (wBlk m c c t))) ⊢ Q ⟨⟩) :
    loopInv m c X G ⊢ wp frame (wpE (defs₀ (F := F)) Variants.none (c : Thread nD τ) none) Set.univ
      (k0_t1_body (F := F) xM h0 wM h1 oM h2 gM h3 bM h4 tM h5 cc0_scratch2 cc0_scratch3 cc0_scratch4 c v2 v95 tt ⟨⟩) Q := by
  unfold k0_t1_body
  simp only [Prog.lift, Prog.bind_op, Prog.bind_ret, Prog.pure_eq_ret]
  iintro HI
  iapply (trip_copy m c c t (wtM_of c t ((off3_eq c tt).trans (by rw [ht]))) rfl rfl) $$ HI
  iapply (trip_first m c c t ((k0_off4_eq tt).trans (by rw [ht])) (by decide) (by decide) hQ)

/-- One trip of loop 2. -/
theorem trip2 (c : Dev nD) (t : Fin 8) (tt : Fin k0_t2_loop.trips) (ht : tt.val = t.val) (w1 w2 w3 w4 w5) (h0 h1 h2 h3 h4 h5)
    {X : S2048x2048.Idx → Elt F .bf16} {G : Out F} {Q : Unit → sProp 𝕄}
    (hQ : loopInv m c X (tilePut G t (k0_pay3 X (wBlk m c (rot 0 c) t) (tileOf G t))) ⊢ Q ⟨⟩) :
    loopInv m c X G ⊢ wp frame (wpE (defs₀ (F := F)) Variants.none (c : Thread nD τ) none) Set.univ
      (k0_t2_body (F := F) xM h0 wM h1 oM h2 gM h3 bM h4 tM h5 cc0_scratch2 cc0_scratch3 cc0_scratch4 c w1 w2 w3 w4 w5 tt ⟨⟩) Q := by
  unfold k0_t2_body
  simp only [Prog.lift, Prog.bind_op, Prog.bind_ret, Prog.pure_eq_ret]
  iintro HI
  iapply (trip_copy m c (rot 0 c) t (wtM_of (rot 0 c) t ((off5_eq c tt).trans (by rw [ht]))) rfl rfl) $$ HI
  iapply (trip_later m (pay := k0_pay3) c (rot 0 c) t ((k0_off6_eq tt).trans (by rw [ht])) (by decide) (by decide) hQ)

/-- One trip of loop 3. -/
theorem trip3 (c : Dev nD) (t : Fin 8) (tt : Fin k0_t3_loop.trips) (ht : tt.val = t.val) (w1 w2 w3 w4) (h0 h1 h2 h3 h4 h5)
    {X : S2048x2048.Idx → Elt F .bf16} {G : Out F} {Q : Unit → sProp 𝕄}
    (hQ : loopInv m c X (tilePut G t (k0_pay3 X (wBlk m c (rot 2 c) t) (tileOf G t))) ⊢ Q ⟨⟩) :
    loopInv m c X G ⊢ wp frame (wpE (defs₀ (F := F)) Variants.none (c : Thread nD τ) none) Set.univ
      (k0_t3_body (F := F) xM h0 wM h1 oM h2 gM h3 bM h4 tM h5 cc0_scratch2 cc0_scratch3 cc0_scratch4 c w1 w2 w3 w4 tt ⟨⟩) Q := by
  unfold k0_t3_body
  simp only [Prog.lift, Prog.bind_op, Prog.bind_ret, Prog.pure_eq_ret]
  iintro HI
  iapply (trip_copy m c (rot 2 c) t (wtM_of (rot 2 c) t ((off7_eq c tt).trans (by rw [ht]))) rfl rfl) $$ HI
  iapply (trip_later m (pay := k0_pay4) c (rot 2 c) t ((k0_off8_eq tt).trans (by rw [ht])) (by decide) (by decide) hQ)

/-- One trip of loop 4. -/
theorem trip4 (c : Dev nD) (t : Fin 8) (tt : Fin k0_t4_loop.trips) (ht : tt.val = t.val) (w1 w2 w3 w4) (h0 h1 h2 h3 h4 h5)
    {X : S2048x2048.Idx → Elt F .bf16} {G : Out F} {Q : Unit → sProp 𝕄}
    (hQ : loopInv m c X (tilePut G t (k0_pay3 X (wBlk m c (rot 1 c) t) (tileOf G t))) ⊢ Q ⟨⟩) :
    loopInv m c X G ⊢ wp frame (wpE (defs₀ (F := F)) Variants.none (c : Thread nD τ) none) Set.univ
      (k0_t4_body (F := F) xM h0 wM h1 oM h2 gM h3 bM h4 tM h5 cc0_scratch2 cc0_scratch3 cc0_scratch4 c w1 w2 w3 w4 tt ⟨⟩) Q := by
  unfold k0_t4_body
  simp only [Prog.lift, Prog.bind_op, Prog.bind_ret, Prog.pure_eq_ret]
  iintro HI
  iapply (trip_copy m c (rot 1 c) t (wtM_of (rot 1 c) t ((off9_eq c tt).trans (by rw [ht]))) rfl rfl) $$ HI
  iapply (trip_later m (pay := k0_pay5) c (rot 1 c) t ((k0_off10_eq tt).trans (by rw [ht])) (by decide) (by decide) hQ)

/-- Loop 1 whole: the result becomes the product. -/
theorem loop1 (c : Dev nD) (v2 v95 : BitVec 32) (h0 h1 h2 h3 h4 h5) {α : Type} {kk : Unit → Prog (TpuEff nD τ sig (Elt F) Λ₀ .tc) α}
    {X : S2048x2048.Idx → Elt F .bf16} {G : Out F} {Q : α → sProp 𝕄} :
    loopInv m c X G
      ⊢ iprop((loopInv m c X (prodAt m X c c) -∗ wp frame (wpE (defs₀ (F := F)) Variants.none (c : Thread nD τ) none) Set.univ (kk ⟨⟩) Q)
        -∗ wp frame (wpE (defs₀ (F := F)) Variants.none (c : Thread nD τ) none) Set.univ
      (Scf.Loop.for k0_t1_loop k0_t1_ok ⟨⟩
        (k0_t1_body (F := F) xM h0 wM h1 oM h2 gM h3 bM h4 tM h5 cc0_scratch2 cc0_scratch3 cc0_scratch4 c v2 v95) >>= kk) Q) := by
  iintro HI Hk
  iapply (Scf.wp_for_bind _ _ Set.univ _ _ _ k0_t1_ok ⟨⟩ _
    (fun k _ => loopInv m c X (mix k G (tiled fun t => k0_pay2 X (wBlk m c c t))))
    (fun k acc => trip1 m c ⟨k.val, lt_of_lt_of_eq k.isLt trips1⟩ k rfl v2 v95 h0 h1 h2 h3 h4 h5 ?_)) $$ [HI]
  · have h := tilePut_mix ⟨k.val, lt_of_lt_of_eq k.isLt trips1⟩ G (fun t => k0_pay2 X (wBlk m c c t))

    exact BIBase.Entails.of_eq (congrArg (loopInv m c X) h)
  · rw [mix_zero]; iexact HI
  · iintro %acc HI
    rw [show Scf.trips k0_t1_loop.lb k0_t1_loop.ub k0_t1_loop.st = 8 from trips1, mix_eight]
    iapply Hk
    iexact HI

/-- Loop 2 whole: the product is added to the result. -/
theorem loop2 (c : Dev nD) (w1 w2 w3 w4 w5) (h0 h1 h2 h3 h4 h5) {α : Type} {kk : Unit → Prog (TpuEff nD τ sig (Elt F) Λ₀ .tc) α}
    {X : S2048x2048.Idx → Elt F .bf16} {G : Out F} {Q : α → sProp 𝕄} :
    loopInv m c X G
      ⊢ iprop((loopInv m c X (accAt m X c (rot 0 c) G) -∗ wp frame (wpE (defs₀ (F := F)) Variants.none (c : Thread nD τ) none) Set.univ (kk ⟨⟩) Q)
        -∗ wp frame (wpE (defs₀ (F := F)) Variants.none (c : Thread nD τ) none) Set.univ
      (Scf.Loop.for k0_t2_loop k0_t2_ok ⟨⟩
        (k0_t2_body (F := F) xM h0 wM h1 oM h2 gM h3 bM h4 tM h5 cc0_scratch2 cc0_scratch3 cc0_scratch4 c w1 w2 w3 w4 w5) >>= kk) Q) := by
  iintro HI Hk
  iapply (Scf.wp_for_bind _ _ Set.univ _ _ _ k0_t2_ok ⟨⟩ _
    (fun k _ => loopInv m c X (mix k G (tiled fun t => k0_pay3 X (wBlk m c (rot 0 c) t) (tileOf G t))))
    (fun k acc => trip2 m c ⟨k.val, lt_of_lt_of_eq k.isLt trips2⟩ k rfl w1 w2 w3 w4 w5 h0 h1 h2 h3 h4 h5 ?_)) $$ [HI]
  · have h := tilePut_mix ⟨k.val, lt_of_lt_of_eq k.isLt trips2⟩ G (fun t => k0_pay3 X (wBlk m c (rot 0 c) t) (tileOf G t))
    rw [tileOf_mix ⟨k.val, lt_of_lt_of_eq k.isLt trips2⟩]
    exact BIBase.Entails.of_eq (congrArg (loopInv m c X) h)
  · rw [mix_zero]; iexact HI
  · iintro %acc HI
    rw [show Scf.trips k0_t2_loop.lb k0_t2_loop.ub k0_t2_loop.st = 8 from trips2, mix_eight]
    iapply Hk
    iexact HI

/-- Loop 3 whole: the product is added to the result. -/
theorem loop3 (c : Dev nD) (w1 w2 w3 w4) (h0 h1 h2 h3 h4 h5) {α : Type} {kk : Unit → Prog (TpuEff nD τ sig (Elt F) Λ₀ .tc) α}
    {X : S2048x2048.Idx → Elt F .bf16} {G : Out F} {Q : α → sProp 𝕄} :
    loopInv m c X G
      ⊢ iprop((loopInv m c X (accAt m X c (rot 2 c) G) -∗ wp frame (wpE (defs₀ (F := F)) Variants.none (c : Thread nD τ) none) Set.univ (kk ⟨⟩) Q)
        -∗ wp frame (wpE (defs₀ (F := F)) Variants.none (c : Thread nD τ) none) Set.univ
      (Scf.Loop.for k0_t3_loop k0_t3_ok ⟨⟩
        (k0_t3_body (F := F) xM h0 wM h1 oM h2 gM h3 bM h4 tM h5 cc0_scratch2 cc0_scratch3 cc0_scratch4 c w1 w2 w3 w4) >>= kk) Q) := by
  iintro HI Hk
  iapply (Scf.wp_for_bind _ _ Set.univ _ _ _ k0_t3_ok ⟨⟩ _
    (fun k _ => loopInv m c X (mix k G (tiled fun t => k0_pay3 X (wBlk m c (rot 2 c) t) (tileOf G t))))
    (fun k acc => trip3 m c ⟨k.val, lt_of_lt_of_eq k.isLt trips3⟩ k rfl w1 w2 w3 w4 h0 h1 h2 h3 h4 h5 ?_)) $$ [HI]
  · have h := tilePut_mix ⟨k.val, lt_of_lt_of_eq k.isLt trips3⟩ G (fun t => k0_pay3 X (wBlk m c (rot 2 c) t) (tileOf G t))
    rw [tileOf_mix ⟨k.val, lt_of_lt_of_eq k.isLt trips3⟩]
    exact BIBase.Entails.of_eq (congrArg (loopInv m c X) h)
  · rw [mix_zero]; iexact HI
  · iintro %acc HI
    rw [show Scf.trips k0_t3_loop.lb k0_t3_loop.ub k0_t3_loop.st = 8 from trips3, mix_eight]
    iapply Hk
    iexact HI

/-- Loop 4 whole: the product is added to the result. -/
theorem loop4 (c : Dev nD) (w1 w2 w3 w4) (h0 h1 h2 h3 h4 h5) {α : Type} {kk : Unit → Prog (TpuEff nD τ sig (Elt F) Λ₀ .tc) α}
    {X : S2048x2048.Idx → Elt F .bf16} {G : Out F} {Q : α → sProp 𝕄} :
    loopInv m c X G
      ⊢ iprop((loopInv m c X (accAt m X c (rot 1 c) G) -∗ wp frame (wpE (defs₀ (F := F)) Variants.none (c : Thread nD τ) none) Set.univ (kk ⟨⟩) Q)
        -∗ wp frame (wpE (defs₀ (F := F)) Variants.none (c : Thread nD τ) none) Set.univ
      (Scf.Loop.for k0_t4_loop k0_t4_ok ⟨⟩
        (k0_t4_body (F := F) xM h0 wM h1 oM h2 gM h3 bM h4 tM h5 cc0_scratch2 cc0_scratch3 cc0_scratch4 c w1 w2 w3 w4) >>= kk) Q) := by
  iintro HI Hk
  iapply (Scf.wp_for_bind _ _ Set.univ _ _ _ k0_t4_ok ⟨⟩ _
    (fun k _ => loopInv m c X (mix k G (tiled fun t => k0_pay3 X (wBlk m c (rot 1 c) t) (tileOf G t))))
    (fun k acc => trip4 m c ⟨k.val, lt_of_lt_of_eq k.isLt trips4⟩ k rfl w1 w2 w3 w4 h0 h1 h2 h3 h4 h5 ?_)) $$ [HI]
  · have h := tilePut_mix ⟨k.val, lt_of_lt_of_eq k.isLt trips4⟩ G (fun t => k0_pay3 X (wBlk m c (rot 1 c) t) (tileOf G t))
    rw [tileOf_mix ⟨k.val, lt_of_lt_of_eq k.isLt trips4⟩]
    exact BIBase.Entails.of_eq (congrArg (loopInv m c X) h)
  · rw [mix_zero]; iexact HI
  · iintro %acc HI
    rw [show Scf.trips k0_t4_loop.lb k0_t4_loop.ub k0_t4_loop.st = 8 from trips4, mix_eight]
    iapply Hk
    iexact HI

end Cert.KernelIdeal.Ring

end
-- ==== Proof.BodyIdeal.lean ====
/-
The body of the kernel run on one device, from its share of the protocol to its block of the result: three signals, the
barrier, three sends, and four blocks of rows multiplied in, its own first and then each as it arrives.
-/
module

public import proofs.«01_k».proof.Proof.TilesIdeal
public import Idealize.ShloMosaic.Lib.Pipeline.ValueKit.Geometry

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- The four products summed on device `c`: its own rows' product, then the others' added in the order they are taken. -/
def sumAt (c : Dev nD) : Out F :=
  accAt m (xBlk m (rot 1 c) c) c (rot 1 c) (accAt m (xBlk m (rot 2 c) c) c (rot 2 c)
    (accAt m (xBlk m (rot 0 c) c) c (rot 0 c) (prodAt m (xBlk m c c) c c)))
/-- Device `c`'s block of the result: that sum with negative entries replaced by zero. -/
def outAt (c : Dev nD) : Out F := k0_pay1 (sumAt m c)

section Body

variable (K : Dev nD × Fin 7 → ℕ)

/-- Every cell's invariant under the names `K`, and that every cell has reached its first round. -/
def records : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent : BI.Persistent (records m K) := by unfold records; infer_instance

omit [FloatOps F] in
/-- One cell's invariant among them; -/
theorem inv_at (ck : Dev nD × Fin 7) : records m K ⊢ cellInv ER (Rd m) (K ck) (kcell ck) := by
  have h : (bigSep Finset.univ fun ck : Dev nD × Fin 7 => (cellInv ER (Rd m) (K ck) (kcell ck) : sProp 𝕄)) ⊢ cellInv ER (Rd m) (K ck) (kcell ck) :=
    bigSep_elim (Finset.mem_univ ck)
  unfold records; iintro ⟨#HI, #HR⟩; iapply h; iexact HI
omit [FloatOps F] in
/-- one cell's mark. -/
theorem reached_at (ck : Dev nD × Fin 7) : records m K ⊢ reached ER (kcell ck) 0 := by
  have h : (bigSep Finset.univ fun ck : Dev nD × Fin 7 => (reached ER (kcell ck) 0 : sProp 𝕄)) ⊢ reached ER (kcell ck) 0 :=
    bigSep_elim (Finset.mem_univ ck)
  unfold records; iintro ⟨#HI, #HR⟩; iapply h; iexact HR
omit [FloatOps F] in
theorem inv_send (c : Dev nD) (q : Fin 3) : records m K ⊢ cellInv ER (Rd m) (K (c, sIx q)) (sendCell c q) :=
  (inv_at m K (c, sIx q)).trans (Entails.of_eq (by rw [kcell_send]))
omit [FloatOps F] in
theorem inv_recv (c : Dev nD) (q : Fin 3) : records m K ⊢ cellInv ER (Rd m) (K (c, vIx q)) (recvCell c q) :=
  (inv_at m K (c, vIx q)).trans (Entails.of_eq (by rw [kcell_recv]))
omit [FloatOps F] in
theorem reached_send (c : Dev nD) (q : Fin 3) : records m K ⊢ reached ER (sendCell c q) 0 :=
  (reached_at m K (c, sIx q)).trans (Entails.of_eq (by rw [kcell_send]))
omit [FloatOps F] in
theorem reached_recv (c : Dev nD) (q : Fin 3) : records m K ⊢ reached ER (recvCell c q) 0 :=
  (reached_at m K (c, vIx q)).trans (Entails.of_eq (by rw [kcell_recv]))

/-- Handing slot `q` of its own over: the slot, and the mark every cell has. -/
theorem handOver_intro (c : Dev nD) (q : Fin 3) : iprop(records m K ∗ ∃ f, slotPts (F := F) c q f) ⊢ handOver (F := F) c q := by
  unfold handOver
  iintro ⟨#HR, Hs⟩
  isplitl [Hs]; · iexact Hs
  iapply (reached_recv m K c q); iexact HR

/-- A send to the device `q + 1` places on, of the rows meant for it into slot `q` of its gather buffer. -/
theorem send_step (c n : Dev nD) (q : Fin 3) (hn : n = rot q c) {src : Memref sig .tc .hbm S2048x2048 .bf16}
    {dst : Memref sig (Dev.tc n : Thread nD τ).2.kind .hbm S2048x2048 .bf16} {sS sR : DmaSem sig}
    (hsrc : src = rowM (rot q c)) (hdst : dst = slotM q) (hS : sS = sendS q) (hR : sR = recvS q)
    {hsc : dst.view.ref.isScScratch = false} {hs : src.view.WordExact} {hd : dst.view.WordExact}
    {hsem : DmaTarget.Typed .hbm (.dma sR) (.remote (Dev.tc n : Thread nD τ) dst (.dma sS) hsc)}
    {α : Type} {Q : α → sProp 𝕄} {k : PUnit.{1} → Prog (TpuEff nD τ sig (Elt F) Λ₀ .tc) α}
    (O O' : CellTallies nD τ sig Unit) (hO : O = O' + tallyAt (recvCell (rot q c) q) () N) (W : Waits sig Unit) :
    iprop(records m K ∗ rowPts m c (rot q c) ∗ (∃ f, slotPts (F := F) (rot q c) q f) ∗ owes (c : Thread nD τ) O W
        ∗ dutyTok ER (sendCell c q) 0 0 ∗ dutyTok ER (recvCell (rot q c) q) 0 0)
      ⊢ iprop(((cred (tallyAt (sendCell c q) () N) ∗ owes (c : Thread nD τ) O' W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) dst (.dma sS) hsc) (.dma sR) hs hd hsem) k) Q) := by
  subst hn hsrc hdst hS hR hO
  unfold rowPts slotPts
  iintro ⟨#HR, Hx, ⟨%f, Hs⟩, HO, HtS, HtV⟩
  iapply (Rounds.wp_send_pointsTo Variants.none ER (Rd m) (c : Thread nD τ) none (κ₁ := K (c, sIx q)) (κ₂ := K (rot q c, vIx q))
    (r₁ := 0) (r₂ := 0) (d₁ := 0) (d₂ := 0) (fd := f)
    (by rw [duties_send]; exact Finset.mem_singleton_self _) (by rw [duties_recv]; exact Finset.mem_singleton_self _)
    () () N rfl (amount_send m c q 0) (amount_recv m (rot q c) q 0) O' rfl (W := W)
    (by rw [payload_send]; exact BI.Entails.refl _)
    (by
      rw [payload_recv]; unfold recvPay slotPts
      iintro H
      iexists ((slotM q).view.write (Elt F) f ((rowM (rot q c)).view.read (Elt F) (m ((rowM (rot q c)).view.loc (c : Thread nD τ)))) Finset.univ)
      isplitr
      · ipureintro
        refine (View.read_write_univ _ _).trans ?_
        unfold xBlk
        rw [rot_rev]
      · iexact H)) $$ [Hx Hs HO HtS HtV]
  isplitr; · iapply (inv_send m K c q); iexact HR
  isplitr; · iapply (inv_recv m K (rot q c) q); iexact HR
  isplitl [Hx]; · iexact Hx
  isplitl [Hs]; · iexact Hs
  isplitl [HO]; · iexact HO
  isplitl [HtS]; · iexact HtS
  isplitr; · iapply (reached_send m K c q); iexact HR
  isplitl [HtV]; · iexact HtV
  iapply (reached_recv m K (rot q c) q); iexact HR

/-- Waiting for slot `q` and copying it in: the rows held are then the ones its sender had for `c`. -/
theorem fetch_step (c j : Dev nD) (q : Fin 3) (hj : rot q.rev c = j)
    {d1 src : Memref sig .tc .hbm S2048x2048 .bf16} {s1 : Shape} {e1 : EltTy} {sp1 : Space} {w1 : Memref sig .tc sp1 s1 e1}
    {s2 : Shape} {e2 : EltTy} {sp2 : Space} {w2 : Memref sig .tc sp2 s2 e2}
    {sR sL sL' : DmaSem sig} (hd1 : d1 = slotM q) (hsrc : src = slotM q) (hR : sR = recvS q) (hL : sL = locS 0) (hL' : sL' = locS 0)
    {h1 : w1.view.WordExact} {h2 : d1.view.WordExact} {h3 : src.view.WordExact} {h4 : bM.view.WordExact}
    {h5 : DmaTarget.Typed (nD := nD) (p := Proc.tc) .hbm (SemLoc.dma sL) (.here bM)} {h6 : w2.view.WordExact} {h7 : bM.view.WordExact}
    {α : Type} {Q : α → sProp 𝕄} {k : PUnit.{1} → Prog (TpuEff nD τ sig (Elt F) Λ₀ .tc) α} :
    iprop(records m K ∗ cred (tallyAt (recvCell c q) () N) ∗ atPos ER (recvCell c q) 0 ∅ 0
        ∗ (∃ f, bM.view.loc (c : Thread nD τ) ↦{fullShare} f) ∗ semVal (locCell c 0) 0 ∗ ∃ W, owes (c : Thread nD τ) 0 W)
      ⊢ iprop((((bM.view.loc (c : Thread nD τ) ↦{fullShare} xBlk m j c) ∗ semVal (locCell c 0) 0 ∗ semVal (recvCell c q) 0
              ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sR w1 d1 h1 h2) fun _ => .op (.enqueueDma src (.here bM) (.dma sL) h3 h4 h5) fun _ =>
                .op (.waitDma2 sL' w2 bM h6 h7) k) Q) := by
  subst hd1 hsrc hR hL hL' hj
  iintro ⟨#HR, Hc, Hat, Hb, Hv, %W, HO⟩ Hk
  iapply (Rounds.wp_wait_rest_token Variants.none ER (Rd m) (c : Thread nD τ) none (κ := K (c, vIx q))
      (wpE_waitDma2_eq Variants.none (c : Thread nD τ) none Set.univ) (Set.mem_univ _) () (O := 0) (W := W) (R := 0) (m := 0) (T := ∅)
      (by rw [Nat.zero_add, expect_recv]; rfl)) $$ [Hc HO Hat]
  · isplitr; · iapply (inv_recv m K c q); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c q)) $$ Hpay
  imod (Rounds.cell_close ER (Rd m) (Set.mem_univ (K (c, vIx q))) (fun h => h) (R := 0 + 1) (duties_later m (recvCell c q))) $$ [Hat] with Hz
  · isplitr; · iapply (inv_recv m K c q); iexact HR
    iexact Hat
  unfold recvPay slotPts
  icases Hp with ⟨%f, %hf, Hs⟩
  iapply (copy_wait (src := slotM q) (dst := bM) c rfl (View.dmaCredit_pos _ (by decide)) (Finset.Subset.refl _)
    (fs := f) (xBlk m (rot q.rev c) c) (fun _ => by rw [hf]; exact View.write_whole_univ _ _ _)) $$ [Hs Hb Hv HO]
  · isplitl [Hs]; · iexact Hs
    isplitl [Hb]; · iexact Hb
    isplitl [Hv]; · iexact Hv
    iexact HO
  iintro ⟨-, Hb, Hv, HO⟩
  iapply Hk
  isplitl [Hb]; · iexact Hb
  isplitl [Hv]; · iexact Hv
  isplitl [Hz]; · iexact Hz
  iexists _; iexact HO

/-- Copying its own rows in. -/
theorem own_step (c : Dev nD) {src : Memref sig .tc .hbm S2048x2048 .bf16} {s2 : Shape} {e2 : EltTy} {sp2 : Space} {w2 : Memref sig .tc sp2 s2 e2}
    {sL sL' : DmaSem sig} (hsrc : src = rowM c) (hL : sL = locS 0) (hL' : sL' = locS 0)
    {h3 : src.view.WordExact} {h4 : bM.view.WordExact}
    {h5 : DmaTarget.Typed (nD := nD) (p := Proc.tc) .hbm (SemLoc.dma sL) (.here bM)} {h6 : w2.view.WordExact} {h7 : bM.view.WordExact}
    {α : Type} {Q : α → sProp 𝕄} {k : PUnit.{1} → Prog (TpuEff nD τ sig (Elt F) Λ₀ .tc) α} {W : Waits sig Unit} :
    iprop(rowPts m c c ∗ (∃ f, bM.view.loc (c : Thread nD τ) ↦{fullShare} f) ∗ semVal (locCell c 0) 0 ∗ owes (c : Thread nD τ) 0 W)
      ⊢ iprop(((rowPts m c c ∗ (bM.view.loc (c : Thread nD τ) ↦{fullShare} xBlk m c c) ∗ semVal (locCell c 0) 0
              ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.here bM) (.dma sL) h3 h4 h5) fun _ => .op (.waitDma2 sL' w2 bM h6 h7) k) Q) := by
  subst hsrc hL hL'
  unfold rowPts
  iintro ⟨Hx, Hb, Hv, HO⟩ Hk
  iapply (copy_wait (src := rowM c) (dst := bM) c rfl (View.dmaCredit_pos _ (by decide)) (Finset.Subset.refl _)
    (fs := m ((rowM c).view.loc (c : Thread nD τ))) (xBlk m c c) (fun _ => View.write_whole_univ _ _ _)) $$ [Hx Hb Hv HO]
  · isplitl [Hx]; · iexact Hx
    isplitl [Hb]; · iexact Hb
    isplitl [Hv]; · iexact Hv
    iexact HO
  iintro ⟨Hx, Hb, Hv, HO⟩
  iapply Hk
  isplitl [Hx]; · iexact Hx
  isplitl [Hb]; · iexact Hb
  isplitl [Hv]; · iexact Hv
  iexists _; iexact HO

/-- Waiting for a send to be done: its rows come back. -/
theorem drain_step (c : Dev nD) (q : Fin 3) {d1 : Memref sig .tc .hbm S2048x2048 .bf16} {s1 : Shape} {e1 : EltTy} {sp1 : Space}
    {w1 : Memref sig .tc sp1 s1 e1} {sS : DmaSem sig} (hd1 : d1 = rowM (rot q c)) (hS : sS = sendS q)
    {h1 : w1.view.WordExact} {h2 : d1.view.WordExact}
    {α : Type} {Q : α → sProp 𝕄} {k : PUnit.{1} → Prog (TpuEff nD τ sig (Elt F) Λ₀ .tc) α} :
    iprop(records m K ∗ cred (tallyAt (sendCell c q) () N) ∗ atPos ER (sendCell c q) 0 ∅ 0 ∗ ∃ W, owes (c : Thread nD τ) 0 W)
      ⊢ iprop(((rowPts m c (rot q c) ∗ semVal (sendCell c q) 0 ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ (.op (.waitDma2 sS w1 d1 h1 h2) k) Q) := by
  subst hd1 hS
  iintro ⟨#HR, Hc, Hat, %W, HO⟩ Hk
  iapply (Rounds.wp_wait_rest_token Variants.none ER (Rd m) (c : Thread nD τ) none (κ := K (c, sIx q))
      (wpE_waitDma2_eq Variants.none (c : Thread nD τ) none Set.univ) (Set.mem_univ _) () (O := 0) (W := W) (R := 0) (m := 0) (T := ∅)
      (by rw [Nat.zero_add, expect_send]; rfl)) $$ [Hc HO Hat]
  · isplitr; · iapply (inv_send m K c q); iexact HR
    isplitl [Hc]; · iexact Hc
    isplitl [HO]; · iexact HO
    isplitr; · rw [MayWait_zero]; iempintro
    iexact Hat
  iintro ⟨HO, Hat, -, Hpay⟩
  ihave Hp := (Entails.of_eq (rest_send m c q)) $$ Hpay
  imod (Rounds.cell_close ER (Rd m) (Set.mem_univ (K (c, sIx q))) (fun h => h) (R := 0 + 1) (duties_later m (sendCell c q))) $$ [Hat] with Hz
  · isplitr; · iapply (inv_send m K c q); iexact HR
    iexact Hat
  iapply Hk
  unfold sendPay
  isplitl [Hp]; · iexact Hp
  isplitl [Hz]; · iexact Hz
  iexists _; iexact HO

end Body

end Cert.KernelIdeal.Ring

end
-- ==== Proof.RunIdeal.lean ====
/-
The run of the body on one device, symbolically executed from what the launch gives it to what it leaves, and that run
as the obligation of the launch library.
-/
module

public import proofs.«01_k».proof.Proof.BodyIdeal
public import Idealize.ShloMosaic.Lib.Pipeline.ValueKit.Geometry

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Carving the operand's rows and the gather buffer's slots -/

/-- The elements of row block `t`. -/
theorem mem_row (t : Fin 4) (i : S8192x2048.Idx) : i ∈ (rowM t).view.set ↔ 2048 * t.val ≤ (i 0).val ∧ (i 0).val < 2048 * t.val + 2048 := by
  have e : (rowM t).view.set = (Rect.unit (s := S8192x2048) ![2048 * t.val, 0] S2048x2048.size (row_inb t)).set := View.set_slice_whole main_arg0 _
  have h1 := idx2_lt1 i
  refine (Iff.of_eq (congrArg (fun S : Finset S8192x2048.Idx => i ∈ S) e)).trans (Rect.mem_set_unit.trans ?_)
  constructor
  · intro h; exact h 0
  · intro h a
    fin_cases a
    · exact h
    · exact ⟨Nat.zero_le _, lt_of_lt_of_eq h1 (Nat.zero_add _).symm⟩
/-- The elements of slot `q`. -/
theorem mem_slot (q : Fin 3) (i : S3x2048x2048.Idx) (h : i ∈ (slotM q).view.set) : (i 0).val = q.val := by
  have e : (slotM q).view.set = (Rect.unit (s := S3x2048x2048) ![q.val, 0, 0] S1x2048x2048.size (slot_inb q)).set :=
    (View.set_reshape _ _).trans (View.set_slice_whole main_v1_1 _)
  have h' : i ∈ (Rect.unit (s := S3x2048x2048) ![q.val, 0, 0] S1x2048x2048.size (slot_inb q)).set :=
    (Iff.of_eq (congrArg (fun S : Finset S3x2048x2048.Idx => i ∈ S) e)).mp h
  have h0 : q.val ≤ (i 0).val ∧ (i 0).val < q.val + 1 := Rect.mem_set_unit.mp h' 0
  omega

/-- Two row blocks share nothing. -/
theorem row_disj {t t' : Fin 4} (h : t ≠ t') : Disjoint (rowM t).view.set (rowM t').view.set := by
  refine Finset.disjoint_left.mpr fun i hi hi' => h (Fin.ext ?_)
  have h1 := (mem_row t i).mp hi
  have h2 := (mem_row t' i).mp hi'
  omega
/-- Two slots share nothing. -/
theorem slot_disj {q q' : Fin 3} (h : q ≠ q') : Disjoint (slotM q).view.set (slotM q').view.set :=
  Finset.disjoint_left.mpr fun i hi hi' => h (Fin.ext ((mem_slot q i hi).symm.trans (mem_slot q' i hi')))

/-- The rest of a set stays around a part disjoint from what is taken. -/
theorem subset_rest {A : Type} [DecidableEq A] {S I J : Finset A} (h : J ⊆ S) (hd : Disjoint J I) : J ⊆ S \ I :=
  fun x hx => Finset.mem_sdiff.mpr ⟨h hx, fun hi => Finset.disjoint_left.mp hd hx hi⟩

theorem rot_ne (q : Fin 3) (c : Dev nD) : c ≠ rot q c := by revert q c; decide
theorem rot_ne' {p q : Fin 3} (h : p ≠ q) (c : Dev nD) : rot p c ≠ rot q c := by revert p q c; decide

/-- A device's first operand, whole. -/
abbrev xPts (c : Dev nD) : sProp 𝕄 := xM.view.loc (c : Thread nD τ) ↦{fullShare} m (xM.view.loc (c : Thread nD τ))
/-- Its second. -/
abbrev wPts (c : Dev nD) : sProp 𝕄 := wM.view.loc (c : Thread nD τ) ↦{fullShare} m (wM.view.loc (c : Thread nD τ))
/-- The four row blocks and nothing else of it. -/
def rowsPts (c : Dev nD) : sProp 𝕄 :=
  iprop(rowPts m c (rot 0 c) ∗ rowPts m c (rot 1 c) ∗ rowPts m c (rot 2 c) ∗ rowPts m c c
    ∗ (xM.view.loc (c : Thread nD τ) ↦[(((Finset.univ \ (rowM (rot 0 c)).view.set) \ (rowM (rot 1 c)).view.set) \ (rowM (rot 2 c)).view.set) \ (rowM c).view.set]{fullShare}
        m (xM.view.loc (c : Thread nD τ))))

omit [FloatOps F] in
/-- The first operand is its four row blocks. -/
theorem rows_split (c : Dev nD) : xPts m c ⊣⊢ rowsPts m c := by
  have h0 : (rowM (rot 0 c)).view.set ⊆ (Finset.univ : Finset (Idx (xM.view.loc (c : Thread nD τ)))) := Finset.subset_univ _
  have h1 := subset_rest (S := Finset.univ) (Finset.subset_univ _) (row_disj (t := rot 1 c) (t' := rot 0 c) (rot_ne' (by decide) c))
  have h2 := subset_rest (subset_rest (S := Finset.univ) (Finset.subset_univ _) (row_disj (t := rot 2 c) (t' := rot 0 c) (rot_ne' (by decide) c)))
    (row_disj (t := rot 2 c) (t' := rot 1 c) (rot_ne' (by decide) c))
  have h3 := subset_rest (subset_rest (subset_rest (S := Finset.univ) (Finset.subset_univ _) (row_disj (t := c) (t' := rot 0 c) (rot_ne 0 c))) (row_disj (t := c) (t' := rot 1 c) (rot_ne 1 c)))
    (row_disj (t := c) (t' := rot 2 c) (rot_ne 2 c))
  unfold rowsPts rowPts
  constructor
  · iintro H
    ihave H := (pointsTo_split_subset h0).1 $$ H
    icases H with ⟨H0, H⟩
    ihave H := (pointsTo_split_subset h1).1 $$ H
    icases H with ⟨H1, H⟩
    ihave H := (pointsTo_split_subset h2).1 $$ H
    icases H with ⟨H2, H⟩
    ihave H := (pointsTo_split_subset h3).1 $$ H
    icases H with ⟨H3, H⟩
    isplitl [H0]; · iexact H0
    isplitl [H1]; · iexact H1
    isplitl [H2]; · iexact H2
    isplitl [H3]; · iexact H3
    iexact H
  · iintro ⟨H0, H1, H2, H3, H⟩
    iapply (pointsTo_split_subset h0).2
    isplitl [H0]; · iexact H0
    iapply (pointsTo_split_subset h1).2
    isplitl [H1]; · iexact H1
    iapply (pointsTo_split_subset h2).2
    isplitl [H2]; · iexact H2
    iapply (pointsTo_split_subset h3).2
    isplitl [H3]; · iexact H3
    iexact H

omit [FloatOps F] in
/-- The gather buffer yields its three slots. -/
theorem slots_split (c : Dev nD) (f : Buf (Elt F) (gM.view.loc (c : Thread nD τ))) :
    (gM.view.loc (c : Thread nD τ) ↦{fullShare} f) ⊢ iprop((∃ f, slotPts (F := F) c 0 f) ∗ (∃ f, slotPts (F := F) c 1 f) ∗ ∃ f, slotPts (F := F) c 2 f) := by
  have h0 : (slotM 0).view.set ⊆ (Finset.univ : Finset (Idx (gM.view.loc (c : Thread nD τ)))) := Finset.subset_univ _
  have h1 := subset_rest (S := Finset.univ) (Finset.subset_univ _) (slot_disj (q := 1) (q' := 0) (by decide))
  have h2 := subset_rest (subset_rest (S := Finset.univ) (Finset.subset_univ _) (slot_disj (q := 2) (q' := 0) (by decide))) (slot_disj (q := 2) (q' := 1) (by decide))
  unfold slotPts
  iintro H
  ihave H := (pointsTo_split_subset h0).1 $$ H
  icases H with ⟨H0, H⟩
  ihave H := (pointsTo_split_subset h1).1 $$ H
  icases H with ⟨H1, H⟩
  ihave H := (pointsTo_split_subset h2).1 $$ H
  icases H with ⟨H2, -⟩
  isplitl [H0]; · iexists f; iexact H0
  isplitl [H1]; · iexists f; iexact H1
  iexists f; iexact H2

/-! ## The body's start and end -/

/-- The tokens of the duties device `c` pays: one of each other device's barrier, one of each of its send cells, one of a
    receive cell of each other device. -/
def payToks (c : Dev nD) : sProp 𝕄 :=
  iprop((dutyTok ER (barCell (rot 0 c)) 0 0 ∗ dutyTok ER (barCell (rot 1 c)) 0 1 ∗ dutyTok ER (barCell (rot 2 c)) 0 2)
    ∗ (dutyTok ER (sendCell c 0) 0 0 ∗ dutyTok ER (sendCell c 1) 0 0 ∗ dutyTok ER (sendCell c 2) 0 0)
    ∗ (dutyTok ER (recvCell (rot 0 c) 0) 0 0 ∗ dutyTok ER (recvCell (rot 1 c) 1) 0 0 ∗ dutyTok ER (recvCell (rot 2 c) 2) 0 0))
/-- Its positions at the start of its own seven cells. -/
def posns (c : Dev nD) : sProp 𝕄 :=
  iprop(atPos ER (barCell c) 0 ∅ 0 ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))
/-- Its local copies' semaphores at zero. -/
def locs0 (c : Dev nD) : sProp 𝕄 := iprop(semVal (locCell c 0) 0 ∗ semVal (locCell c 1) 0)
/-- What device `c` starts the protocol with. -/
def ghost (K : Dev nD × Fin 7 → ℕ) (c : Dev nD) : sProp 𝕄 := iprop(records m K ∗ posns c ∗ payToks c ∗ locs0 c)
/-- What its waits are paid from. -/
def credits (c : Dev nD) : sProp 𝕄 :=
  iprop(cred (tallyAt (barCell c) () 3) ∗ (cred (tallyAt (recvCell c 0) () N) ∗ cred (tallyAt (recvCell c 1) () N) ∗ cred (tallyAt (recvCell c 2) () N)))

/-- All the launch leaves with device `c`. -/
def start (c : Dev nD) : sProp 𝕄 :=
  iprop((∃ K, ghost m K c) ∗ credits c ∗ levAts L lv ∗ xPts m c ∗ wPts m c ∗ ∃ f, gM.view.loc (c : Thread nD τ) ↦{fullShare} f)
/-- Its two scratch buffers at any contents. -/
def scr (c : Dev nD) : sProp 𝕄 :=
  iprop((∃ f, bM.view.loc (c : Thread nD τ) ↦{fullShare} f) ∗ ∃ f, tM.view.loc (c : Thread nD τ) ↦{fullShare} f)
/-- Its own eight semaphores at zero. -/
def own0 (c : Dev nD) : sProp 𝕄 :=
  iprop(semVal (locCell c 0) 0 ∗ semVal (locCell c 1) 0 ∗ semVal (sendCell c 0) 0 ∗ semVal (sendCell c 1) 0 ∗ semVal (sendCell c 2) 0
    ∗ semVal (recvCell c 0) 0 ∗ semVal (recvCell c 1) 0 ∗ semVal (recvCell c 2) 0)
def Φ₀ (c : Dev nD) : sProp 𝕄 := iprop(start m c ∗ scr c)
/-- What the body leaves besides its result: the operands as launched, and every semaphore at zero. -/
def Φ₁ (c : Dev nD) : sProp 𝕄 := iprop(xPts m c ∗ wPts m c ∗ scr c ∗ own0 c ∗ semVal (barCell c) 0)

/-- A row block, however its offset is written. -/
theorem rowM_of {off : Fin 2 → ℕ} {inb : ∀ a, off a + S2048x2048.size a ≤ S8192x2048.size a} (t : Fin 4) (h : off = ![2048 * t.val, 0]) :
    xM.slice (Rect.unit (s := S8192x2048) off S2048x2048.size inb) (fun _ => rfl) = rowM t := by subst h; rfl

/-- The last store's contents are the device's block of the result. -/
theorem out_written (c : Dev nD) :
    (oM.access (Rect.unit (s := S2048x4096) ![0, 0] S2048x4096.size inb_S2048x4096_S2048x4096_0_0)).write (Elt F) (sumAt m c)
      (k0_pay1 (oM.view.readAt (Elt F) (Rect.unit (s := S2048x4096) ![0, 0] S2048x4096.size inb_S2048x4096_S2048x4096_0_0).toLoadRect (sumAt m c)))
      Finset.univ = outAt m c :=
  (Memref.write_access_unit_zero_univ (Elt F) cc0_stg0_0 (by decide) inb_S2048x4096_S2048x4096_0_0 (sumAt m c) _).trans
    (congrArg k0_pay1 (Memref.readAt_unit_zero (Elt F) cc0_stg0_0 (by decide) inb_S2048x4096_S2048x4096_0_0 (sumAt m c)))

set_option maxHeartbeats 2000000 in
/-- The body from its start to its end. -/
theorem sound_body (K : Dev nD × Fin 7 → ℕ) (c : Dev nD) (W : Waits sig Unit) (Kt : PUnit → sProp 𝕄) :
    iprop((ghost m K c ∗ credits c ∗ levAts L lv ∗ xPts m c ∗ wPts m c ∗ ∃ f, gM.view.loc (c : Thread nD τ) ↦{fullShare} f)
        ∗ scr c ∗ owes (c : Thread nD τ) (O₀ c) W ∗ (∃ f, oM.view.loc (c : Thread nD τ) ↦{fullShare} f)
        ∗ (iprop(Φ₁ m c ∗ (∃ W, owes (c : Thread nD τ) 0 W) ∗ (oM.view.loc (c : Thread nD τ) ↦{fullShare} outAt m c)) -∗ Kt ⟨⟩))
      ⊢ wp frame (wpE (defs₀ (F := F)) Variants.none (c : Thread nD τ) none) Set.univ
          (cc0_body (Memref.whole main_arg0) (Memref.isWhole_whole _) (Memref.whole main_arg1) (Memref.isWhole_whole _)
            (Memref.whole cc0_stg0_0) (Memref.isWhole_whole _) (Memref.whole main_v1_1) (Memref.isWhole_whole _)
            (Memref.whole cc0_scratch0) (Memref.isWhole_whole _) (Memref.whole cc0_scratch1) (Memref.isWhole_whole _)
            cc0_scratch2 cc0_scratch3 cc0_scratch4) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, bind_assoc, Prog.bind_op, Prog.bind_ret, Prog.pure_eq_ret, wp_deviceId]
  unfold ghost posns payToks credits locs0 scr
  iintro ⟨⟨⟨#HR, ⟨HaB, ⟨HaS0, HaS1, HaS2⟩, HaV0, HaV1, HaV2⟩, ⟨⟨HtB0, HtB1, HtB2⟩, ⟨HtS0, HtS1, HtS2⟩, HtV0, HtV1, HtV2⟩, Hl0, Hl1⟩,
    ⟨HcB, HcV0, HcV1, HcV2⟩, #Hlev, Hx, Hw, ⟨%fg, Hg⟩⟩, ⟨Hb, Ht⟩, HO, ⟨%fo, Ho⟩, Hk⟩
  ihave Hx := (rows_split m c).1 $$ Hx
  ihave Hg := (slots_split c fg) $$ Hg
  unfold rowsPts
  icases Hx with ⟨Hx0, Hx1, Hx2, Hxc, Hxr⟩
  icases Hg with ⟨Hg0, Hg1, Hg2⟩
  simp only [dev1_eq c, dev2_eq c, dev3_eq c]
  -- the three signals, each with the slot the device signalled will send into
  unfold O₀
  iapply (Rounds.wp_signal Variants.none ER (Rd m) (c : Thread nD τ) none (dst := (rot 0 c : Thread nD τ)) (κ := K (rot 0 c, 0))
      (d := 0) (by rw [duties_bar]; exact Finset.mem_univ _) ((amount_bar m (rot 0 c) 0).trans (by decide)) () (Ob1 c) rfl) $$ [HO HtB0 Hg2]
  · isplitr; · iapply (inv_at m K (rot 0 c, 0)); iexact HR
    isplitl [HO]; · iexact HO
    isplitl [HtB0]; · iexact HtB0
    isplitl [Hg2]
    · rw [payload_bar]; unfold barPay; rw [rot_rev]; iapply (handOver_intro m K c 2)
      isplitr; · iexact HR
      iexact Hg2
    iapply (reached_at m K (rot 0 c, 0)); iexact HR
  iintro HO
  unfold Ob1
  iapply (Rounds.wp_signal Variants.none ER (Rd m) (c : Thread nD τ) none (dst := (rot 1 c : Thread nD τ)) (κ := K (rot 1 c, 0))
      (d := 1) (by rw [duties_bar]; exact Finset.mem_univ _) ((amount_bar m (rot 1 c) 1).trans (by decide)) () (Ob2 c) rfl) $$ [HO HtB1 Hg1]
  · isplitr; · iapply (inv_at m K (rot 1 c, 0)); iexact HR
    isplitl [HO]; · iexact HO
    isplitl [HtB1]; · iexact HtB1
    isplitl [Hg1]
    · rw [payload_bar]; unfold barPay; rw [rot_rev]; iapply (handOver_intro m K c 1)
      isplitr; · iexact HR
      iexact Hg1
    iapply (reached_at m K (rot 1 c, 0)); iexact HR
  iintro HO
  unfold Ob2
  iapply (Rounds.wp_signal Variants.none ER (Rd m) (c : Thread nD τ) none (dst := (rot 2 c : Thread nD τ)) (κ := K (rot 2 c, 0))
      (d := 2) (by rw [duties_bar]; exact Finset.mem_univ _) ((amount_bar m (rot 2 c) 2).trans (by decide)) () (Os0 c) rfl) $$ [HO HtB2 Hg0]
  · isplitr; · iapply (inv_at m K (rot 2 c, 0)); iexact HR
    isplitl [HO]; · iexact HO
    isplitl [HtB2]; · iexact HtB2
    isplitl [Hg0]
    · rw [payload_bar]; unfold barPay; rw [rot_rev]; iapply (handOver_intro m K c 0)
      isplitr; · iexact HR
      iexact Hg0
    iapply (reached_at m K (rot 2 c, 0)); iexact HR
  iintro HO
  -- the wait for all three others
  iapply (Rounds.wp_wait_rest_token Variants.none ER (Rd m) (c : Thread nD τ) none (κ := K (c, 0))
      (wpE_semWait_eq Variants.none (c : Thread nD τ) none Set.univ) (Set.mem_univ _) () (O := Os0 c) (W := W) (R := 0) (m := 0) (T := ∅)
      (by rw [expect_bar]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold handOver
  icases Hp with ⟨⟨Hs0, -⟩, ⟨Hs1, -⟩, ⟨Hs2, -⟩⟩
  imod (Rounds.cell_close ER (Rd m) (Set.mem_univ (K (c, 0))) (fun h => h) (R := 0 + 1) (duties_later m (barCell c))) $$ [HaB] with HzB
  · isplitr; · iapply (inv_at m K (c, 0)); iexact HR
    iexact HaB
  -- the three sends
  unfold Os0
  iapply (send_step m K c _ 0 (dev4_eq c) (rowM_of _ (off1_0 c)) rfl rfl rfl _ (Os1 c) rfl _) $$ [Hx0 Hs0 HO HtS0 HtV0]
  · isplitr; · iexact HR
    isplitl [Hx0]; · iexact Hx0
    isplitl [Hs0]; · iexact Hs0
    isplitl [HO]; · iexact HO
    isplitl [HtS0]; · iexact HtS0
    iexact HtV0
  iintro ⟨HcS0, HO⟩
  unfold Os1
  iapply (send_step m K c _ 1 (dev5_eq c) (rowM_of _ (off1_1 c)) rfl rfl rfl _ (Os2 c) rfl _) $$ [Hx1 Hs1 HO HtS1 HtV1]
  · isplitr; · iexact HR
    isplitl [Hx1]; · iexact Hx1
    isplitl [Hs1]; · iexact Hs1
    isplitl [HO]; · iexact HO
    isplitl [HtS1]; · iexact HtS1
    iexact HtV1
  iintro ⟨HcS1, HO⟩
  unfold Os2
  iapply (send_step m K c _ 2 (dev6_eq c) (rowM_of _ (off1_2 c)) rfl rfl rfl _ 0 rfl _) $$ [Hx2 Hs2 HO HtS2 HtV2]
  · isplitr; · iexact HR
    isplitl [Hx2]; · iexact Hx2
    isplitl [Hs2]; · iexact Hs2
    isplitl [HO]; · iexact HO
    isplitl [HtS2]; · iexact HtS2
    iexact HtV2
  iintro ⟨HcS2, HO⟩
  -- its own rows copied in, and their product
  iapply (own_step m c (rowM_of c (k0_off2_eq c)) rfl rfl) $$ [Hxc Hb Hl0 HO]
  · isplitl [Hxc]; · iexact Hxc
    isplitl [Hb]; · iexact Hb
    isplitl [Hl0]; · iexact Hl0
    iexact HO
  iintro ⟨Hxc, Hb, Hl0, HO⟩
  iapply (loop1 m c) $$ [Hw Hb Ht Ho Hl1 HO]
  · unfold loopInv
    isplitl [Hw]; · iexact Hw
    isplitl [Hb]; · iexact Hb
    isplitl [Ht]; · iexact Ht
    isplitl [Ho]; · iexact Ho
    isplitl [Hl1]; · iexact Hl1
    iexact HO
  unfold loopInv
  iintro ⟨Hw, Hb, Ht, Ho, Hl1, HO⟩
  -- the rows of the device one place on
  iapply (fetch_step m K c (rot 0 c) 2 rfl rfl rfl rfl rfl rfl) $$ [HcV2 HaV2 Hb Hl0 HO]
  · isplitr; · iexact HR
    isplitl [HcV2]; · iexact HcV2
    isplitl [HaV2]; · iexact HaV2
    isplitl [Hb]; · iexists _; iexact Hb
    isplitl [Hl0]; · iexact Hl0
    iexact HO
  iintro ⟨Hb, Hl0, HzV2, HO⟩
  iapply (loop2 m c) $$ [Hw Hb Ht Ho Hl1 HO]
  · unfold loopInv
    isplitl [Hw]; · iexact Hw
    isplitl [Hb]; · iexact Hb
    isplitl [Ht]; · iexact Ht
    isplitl [Ho]; · iexact Ho
    isplitl [Hl1]; · iexact Hl1
    iexact HO
  unfold loopInv
  iintro ⟨Hw, Hb, Ht, Ho, Hl1, HO⟩
  -- of the device three on
  iapply (fetch_step m K c (rot 2 c) 0 rfl rfl rfl rfl rfl rfl) $$ [HcV0 HaV0 Hb Hl0 HO]
  · isplitr; · iexact HR
    isplitl [HcV0]; · iexact HcV0
    isplitl [HaV0]; · iexact HaV0
    isplitl [Hb]; · iexists _; iexact Hb
    isplitl [Hl0]; · iexact Hl0
    iexact HO
  iintro ⟨Hb, Hl0, HzV0, HO⟩
  iapply (loop3 m c) $$ [Hw Hb Ht Ho Hl1 HO]
  · unfold loopInv
    isplitl [Hw]; · iexact Hw
    isplitl [Hb]; · iexact Hb
    isplitl [Ht]; · iexact Ht
    isplitl [Ho]; · iexact Ho
    isplitl [Hl1]; · iexact Hl1
    iexact HO
  unfold loopInv
  iintro ⟨Hw, Hb, Ht, Ho, Hl1, HO⟩
  -- of the device two on
  iapply (fetch_step m K c (rot 1 c) 1 rfl rfl rfl rfl rfl rfl) $$ [HcV1 HaV1 Hb Hl0 HO]
  · isplitr; · iexact HR
    isplitl [HcV1]; · iexact HcV1
    isplitl [HaV1]; · iexact HaV1
    isplitl [Hb]; · iexists _; iexact Hb
    isplitl [Hl0]; · iexact Hl0
    iexact HO
  iintro ⟨Hb, Hl0, HzV1, HO⟩
  iapply (loop4 m c) $$ [Hw Hb Ht Ho Hl1 HO]
  · unfold loopInv
    isplitl [Hw]; · iexact Hw
    isplitl [Hb]; · iexact Hb
    isplitl [Ht]; · iexact Ht
    isplitl [Ho]; · iexact Ho
    isplitl [Hl1]; · iexact Hl1
    iexact HO
  unfold loopInv
  iintro ⟨Hw, Hb, Ht, Ho, Hl1, HO⟩
  -- negative entries replaced by zero
  iapply (wp_load Variants.none (c : Thread nD τ) none Set.univ (m := oM) (Finset.subset_univ _)) $$ Ho; iintro Ho
  iapply (wp_load Variants.none (c : Thread nD τ) none Set.univ (m := oM) (Finset.subset_univ _)) $$ Ho; iintro Ho
  iapply (wp_store Variants.none (c : Thread nD τ) none Set.univ (m := oM)
    (r := Rect.unit (s := S2048x4096) ![0, 0] S2048x4096.size inb_S2048x4096_S2048x4096_0_0) (Finset.subset_univ _)) $$ [Ho]
  · iexact Ho
  iintro Ho
  -- the sends are done
  iapply (drain_step m K c 0 (rowM_of _ (off1_0 c)) rfl) $$ [HcS0 HaS0 HO]
  · isplitr; · iexact HR
    isplitl [HcS0]; · iexact HcS0
    isplitl [HaS0]; · iexact HaS0
    iexact HO
  iintro ⟨Hx0, HzS0, HO⟩
  iapply (drain_step m K c 1 (rowM_of _ (off1_1 c)) rfl) $$ [HcS1 HaS1 HO]
  · isplitr; · iexact HR
    isplitl [HcS1]; · iexact HcS1
    isplitl [HaS1]; · iexact HaS1
    iexact HO
  iintro ⟨Hx1, HzS1, HO⟩
  iapply (drain_step m K c 2 (rowM_of _ (off1_2 c)) rfl) $$ [HcS2 HaS2 HO]
  · isplitr; · iexact HR
    isplitl [HcS2]; · iexact HcS2
    isplitl [HaS2]; · iexact HaS2
    iexact HO
  iintro ⟨Hx2, HzS2, HO⟩
  rw [wp_ret]; imodintro
  iapply Hk
  isplitr [HO Ho]
  · unfold Φ₁ own0 scr
    isplitl [Hx0 Hx1 Hx2 Hxc Hxr]
    · iapply (rows_split m c).2
      unfold rowsPts rowPts
      isplitl [Hx0]; · iexact Hx0
      isplitl [Hx1]; · iexact Hx1
      isplitl [Hx2]; · iexact Hx2
      isplitl [Hxc]; · iexact Hxc
      iexact Hxr
    isplitl [Hw]; · iexact Hw
    isplitl [Hb Ht]
    · isplitl [Hb]; · iexists _; iexact Hb
      iexact Ht
    isplitr [HzB]
    · isplitl [Hl0]; · iexact Hl0
      isplitl [Hl1]; · iexact Hl1
      isplitl [HzS0]; · iexact HzS0
      isplitl [HzS1]; · iexact HzS1
      isplitl [HzS2]; · iexact HzS2
      isplitl [HzV0]; · iexact HzV0
      isplitl [HzV1]; · iexact HzV1
      iexact HzV2
    iexact HzB
  isplitl [HO]; · iexact HO
  iapply (Entails.of_eq (congrArg (fun f => (oM.view.loc (c : Thread nD τ) ↦{fullShare} f : sProp 𝕄)) (out_written m c)))
  iexact Ho

end Cert.KernelIdeal.Ring

end
-- ==== Proof.LaunchIdeal.lean ====
/-
The launch: the protocol's cells allocated from the semaphores at zero, the tokens dealt to the devices which pay with
them, the credit each device waits on, and the run of the whole program with the result's contents.
-/
module

public import proofs.«01_k».proof.Proof.RunIdeal
public import proofs.«01_k».proof.Proof.Gen.KernelIdeal.Points
public import Idealize.ShloMosaic.Lib.Pipeline.Launch
public import Idealize.ShloMosaic.Lib.Pipeline.Value
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data and the body's obligation -/

/-- The region's data on device `c`: its one window leaves the device's block of the result. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The output's staging buffer at named contents. -/
abbrev stgAt (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- A whole buffer owned at named contents is its points-to. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- What the region gives the body: -/
def bodyPre (c : Dev nD) : sProp 𝕄 :=
  iprop(Φ₀ m c ∗ (dats m 0 c).owesAt () t0_0.castSucc ∗ ∃ d, stgAt c ((dats m 0 c).before (0 : Fin 1) t0_0 d))
/-- what it takes back. -/
def bodyPost (c : Dev nD) : sProp 𝕄 :=
  iprop(Φ₁ m c ∗ (dats m 0 c).owesAt () t0_0.succ ∗ stgAt c (outAt m c))

set_option maxRecDepth 4000 in
/-- The body's run meets what the region asks of it. -/
theorem body_obligation (c : Dev nD) : BodyObligation (dats (F := F) m 0 c) (defs₀ (F := F)) Variants.none () Set.univ := fun t => by
  rw [fin_N0 t]
  rw [bigSep_W0, bigSep_W0]
  simp only [owns_stg]
  show bodyPre m c ⊢ wp frame (wpE (defs₀ (F := F)) Variants.none (c : Thread nD τ) none) Set.univ
    (cc0_body (Memref.whole main_arg0) (Memref.isWhole_whole _) (Memref.whole main_arg1) (Memref.isWhole_whole _)
      (Memref.whole cc0_stg0_0) (Memref.isWhole_whole _) (Memref.whole main_v1_1) (Memref.isWhole_whole _)
      (Memref.whole cc0_scratch0) (Memref.isWhole_whole _) (Memref.whole cc0_scratch1) (Memref.isWhole_whole _)
      cc0_scratch2 cc0_scratch3 cc0_scratch4) (fun _ => bodyPost m c)
  unfold bodyPre Φ₀ start Dat.owesAt Pipeline.owesWithin
  rw [show (dats m 0 c).owed t0_0.castSucc = O₀ c from rfl]
  iintro ⟨⟨⟨⟨%K, Hg⟩, Hcr, Hl, Hx, Hw, Hgm⟩, Hscr⟩, ⟨%W, %hW, HO⟩, %d, %f, %hf, Hout⟩
  iapply (sound_body m K c W fun _ => bodyPost m c)
  isplitl [Hg Hcr Hl Hx Hw Hgm]
  · isplitl [Hg]; · iexact Hg
    isplitl [Hcr]; · iexact Hcr
    isplitl [Hl]; · iexact Hl
    isplitl [Hx]; · iexact Hx
    isplitl [Hw]; · iexact Hw
    iexact Hgm
  isplitl [Hscr]; · iexact Hscr
  isplitl [HO]; · iexact HO
  isplitl [Hout]; · iexists f; iexact Hout
  iintro ⟨HΦ, ⟨%W', HO⟩, Hout⟩
  unfold bodyPost Dat.owesAt Pipeline.owesWithin
  rw [show (dats m 0 c).owed t0_0.succ = 0 from rfl]
  isplitl [HΦ]; · iexact HΦ
  isplitl [HO]
  · iexists W'
    isplitr; · ipureintro; exact fun _ _ => Or.inl trivial
    iexact HO
  iexists _; isplitr; · (ipureintro; rfl)
  iexact Hout

/-! ## The cells and their tokens -/

theorem ownSemFacts : Pipeline.OwnSemFacts cfg0.spec osem := by decide

theorem share_eq (c : Dev nD) (w : Fin cfg0.W) : (dats m 0 c).share w = fullShare := by unfold Dat.share; split <;> rfl

/-- The seven cells of the four devices are distinct. -/
theorem kcell_injective : Function.Injective (kcell : Dev nD × Fin 7 → GSem nD τ sig) := by
  rintro ⟨c, k⟩ ⟨c', k'⟩ h
  have h1 : c = c' := congrArg (fun g : GSem nD τ sig => g.1.1) h
  have h2 : csem k = csem k' := congrArg Prod.snd h
  have h3 : ∀ a b : Fin 7, csem a = csem b → a = b := by decide
  rw [h1, h3 k k' h2]
def ringCells : Finset (GSem nD τ sig) := Finset.univ.map ⟨kcell, kcell_injective⟩

/-- Which of a device's own cells a token is of, and which duty of it: three of its barrier, one of each send and receive. -/
def tokIx : Fin 3 × Fin 3 → SemLoc sig × Fin 3
  | (0, i) => (.reg barS, i)
  | (1, i) => (csem (sIx i), 0)
  | (2, i) => (csem (vIx i), 0)
def tokOf (cj : Dev nD × (Fin 3 × Fin 3)) : GSem nD τ sig × ℕ × Fin 3 := (((cj.1 : Thread nD τ), (tokIx cj.2).1), 0, (tokIx cj.2).2)
/-- The tokens are distinct. -/
theorem tokOf_injective : Function.Injective tokOf := by
  rintro ⟨c, j⟩ ⟨c', j'⟩ h
  have h1 : c = c' := congrArg (fun x : GSem nD τ sig × ℕ × Fin 3 => x.1.1.1) h
  have h2 : tokIx j = tokIx j' := congrArg (fun x : GSem nD τ sig × ℕ × Fin 3 => (x.1.2, x.2.2)) h
  have h3 : ∀ a b : Fin 3 × Fin 3, tokIx a = tokIx b → a = b := by decide
  rw [h1, h3 j j' h2]
def ringToks : Finset (GSem nD τ sig × ℕ × Fin 3) := Finset.univ.map ⟨tokOf, tokOf_injective⟩

/-- The algebra's element at the launch. -/
def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- What the launch's element deals device `c`; -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)
/-- and what the step over all devices makes of it. -/
def G' (c : Dev nD) : sProp 𝕄 := iprop(∃ K, ghost m K c)

theorem bigSep_three (Φ : Fin 3 → sProp 𝕄) : bigSep Finset.univ Φ = iprop(Φ 0 ∗ Φ 1 ∗ Φ 2) := bigSep_univ_eq_bigSepL [0, 1, 2] (by decide) (by decide) Φ
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The element is every device's cells at their first round, its positions and its tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_three, bigSep_three, bigSep_three, bigSep_three]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the two of its local copies and the six of its transfers; -/
theorem ownSems0_eq (c : Dev nD) : (Pipeline.ownSems0 (Ix := Unit) (Name := ℕ) (U := UU) (Lvl := ℕ) (Val := Elt F) (τ := τ) osem c : sProp 𝕄) = own0 c := by
  rw [Pipeline.ownSems0_eq_of_list c osem [0, 1, 2, 3, 4, 5, 6, 7] (by decide) (by decide)]; rfl
/-- the barrier's is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the protocol's seven and the local copies' two. -/
theorem sems0_split (c : Dev nD) : iprop(own0 c ∗ semVal (barCell c) 0)
    ⊢ (iprop((bigSep Finset.univ fun k : Fin 7 => semVal (kcell (c, k)) 0) ∗ locs0 c) : sProp 𝕄) := by
  rw [bigSep_seven]
  unfold own0 locs0
  iintro ⟨⟨L0, L1, S0, S1, S2, V0, V1, V2⟩, B⟩
  isplitl [S0 S1 S2 V0 V1 V2 B]
  · isplitl [B]; · iexact B
    isplitl [S0]; · iexact S0
    isplitl [S1]; · iexact S1
    isplitl [S2]; · iexact S2
    isplitl [V0]; · iexact V0
    isplitl [V1]; · iexact V1
    iexact V2
  · isplitl [L0] <;> iassumption

/-- Device `c`'s cells put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs0 c) := by
  rw [ownSems0_eq, unscopedSems0_eq]
  unfold G
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What of a device's start only it holds: its positions, the tokens it pays with, its local copies' semaphores. -/
def linear (c : Dev nD) : sProp 𝕄 :=
  iprop((bigSep Finset.univ fun k : Fin 7 => atPos ER (kcell (c, k)) 0 ∅ 0) ∗ payToks c ∗ locs0 c)

/-- With the records, that is its start in the protocol. -/
theorem ghost_intro (K : Dev nD × Fin 7 → ℕ) (c : Dev nD) : iprop(records m K ∗ linear c) ⊢ G' m c := by
  unfold linear G' ghost posns
  rw [bigSep_seven]
  iintro ⟨HR, ⟨B, S0, S1, S2, V0, V1, V2⟩, Ht, Hl⟩
  iexists K
  isplitl [HR]; · iexact HR
  isplitl [B S0 S1 S2 V0 V1 V2]
  · isplitl [B]; · iexact B
    isplitl [S0 S1 S2]
    · isplitl [S0]; · iexact S0
      isplitl [S1]; · iexact S1
      iexact S2
    · isplitl [V0]; · iexact V0
      isplitl [V1]; · iexact V1
      iexact V2
  isplitl [Ht] <;> iassumption

/-- A device's own token moved to the device which pays with it, one rotation back. -/
theorem tok_around (q : Fin 3) (Φ : Dev nD → sProp 𝕄) :
    bigSep Finset.univ (fun c : Dev nD => Φ c) = bigSep Finset.univ fun c : Dev nD => Φ (rot q c) := bigSep_univ_equiv (rotE q) Φ

/-- The tokens dealt around: a barrier's and a receive's to the device which signals or sends there. -/
theorem toks_around : (bigSep Finset.univ fun c : Dev nD => (toks c : sProp 𝕄)) = bigSep Finset.univ fun c : Dev nD => payToks c := by
  unfold toks payToks
  simp only [bigSep_sep']
  rw [tok_around 0 fun c => (dutyTok ER (barCell c) 0 0 : sProp 𝕄), tok_around 1 fun c => (dutyTok ER (barCell c) 0 1 : sProp 𝕄),
    tok_around 2 fun c => (dutyTok ER (barCell c) 0 2 : sProp 𝕄), tok_around 0 fun c => (dutyTok ER (recvCell c 0) 0 0 : sProp 𝕄),
    tok_around 1 fun c => (dutyTok ER (recvCell c 1) 0 0 : sProp 𝕄), tok_around 2 fun c => (dutyTok ER (recvCell c 2) 0 0 : sProp 𝕄)]

/-- A persistent fact handed to every member. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' allocated cells, read as every device's start. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs0 c) : sProp 𝕄)
      ⊢ bigSep Finset.univ (G' m) := by
  rw [bigSep_sep', bigSep_sep', bigSep_sep', toks_around, ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hloc⟩
  ihave HK := (BI.bigSep_exists_pi Finset.univ (fun (ck : Dev nD × Fin 7) (κ : ℕ) => (cellInv ER (Rd m) κ (kcell ck) : sProp 𝕄))) $$ HI
  icases HK with ⟨%K, #HI⟩
  iapply (bigSep_with_persistent (R := records m K) fun c _ => ghost_intro m K c)
  isplitr
  · unfold records; isplitl; · iexact HI
    iexact HR
  · unfold linear
    rw [bigSep_sep', bigSep_sep']
    isplitl [Hat]; · iexact Hat
    isplitl [Htok] <;> iassumption

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem bar_tally (q : Fin 3) (d c : Dev nD) (k : ℕ) :
    (tallyAt (barCell (rot q d)) () k : CellTallies nD τ sig Unit) (barCell c) () = if d = rot q.rev c then k else 0 := by
  rw [tallyAt_apply]
  refine if_congr ⟨fun h => ?_, fun h => ?_⟩ rfl rfl
  · have h1 : c = rot q d := congrArg (fun g : GSem nD τ sig => g.1.1) h.1
    rw [h1, rot_rev]
  · subst h; rw [rev_rot]; exact ⟨rfl, rfl⟩
theorem recv_tally (q : Fin 3) (d c : Dev nD) (k : ℕ) :
    (tallyAt (recvCell (rot q d) q) () k : CellTallies nD τ sig Unit) (recvCell c q) () = if d = rot q.rev c then k else 0 := by
  rw [tallyAt_apply]
  refine if_congr ⟨fun h => ?_, fun h => ?_⟩ rfl rfl
  · have h1 : c = rot q d := congrArg (fun g : GSem nD τ sig => g.1.1) h.1
    rw [h1, rot_rev]
  · subst h; rw [rev_rot]; exact ⟨rfl, rfl⟩
/-- A tally at one semaphore counts nothing at another. -/
theorem tally_off {s s' : SemLoc sig} (h : s' ≠ s) (d c : Dev nD) (k : ℕ) :
    (tallyAt ((d : Thread nD τ), s) () k : CellTallies nD τ sig Unit) ((c : Thread nD τ), s') () = 0 := by
  rw [tallyAt_ne_cell fun e => h (congrArg Prod.snd e)]; rfl

/-- What device `d` owes device `c`'s barrier: a unit for each rotation taking `d` to `c`. -/
theorem owed_bar (d c : Dev nD) :
    O₀ d (barCell c) () = (if d = rot 2 c then 1 else 0) + (if d = rot 1 c then 1 else 0) + (if d = rot 0 c then 1 else 0) := by
  unfold O₀ Ob1 Ob2 Os0 Os1 Os2
  simp only [Pi.add_apply, Finsupp.add_apply, bar_tally]
  rw [tally_off (by decide), tally_off (by decide), tally_off (by decide)]
  simp only [Pi.zero_apply, Finsupp.zero_apply, Nat.zero_add]
  rw [show (2 : Fin 3).rev = 0 from rfl, show (1 : Fin 3).rev = 1 from rfl, show (0 : Fin 3).rev = 2 from rfl]
  omega
/-- What it owes device `c`'s receive semaphore `q`: a block, if rotation `q` takes `d` to `c`. -/
theorem owed_recv (d c : Dev nD) (q : Fin 3) : O₀ d (recvCell c q) () = if d = rot q.rev c then N else 0 := by
  unfold O₀ Ob1 Ob2 Os0 Os1 Os2
  simp only [Pi.add_apply, Finsupp.add_apply]
  rw [tally_off (s := .reg barS) (by fin_cases q <;> decide), tally_off (s := .reg barS) (by fin_cases q <;> decide),
    tally_off (s := .reg barS) (by fin_cases q <;> decide)]
  simp only [Pi.zero_apply, Finsupp.zero_apply, Nat.add_zero, Nat.zero_add]
  match q with
  | 0 => rw [tally_off (s' := .dma (recvS 0)) (s := .dma (recvS 2)) (by decide), tally_off (s' := .dma (recvS 0)) (s := .dma (recvS 1)) (by decide), Nat.zero_add]
         exact recv_tally 0 d c N
  | 1 => rw [tally_off (s' := .dma (recvS 1)) (s := .dma (recvS 2)) (by decide), tally_off (s' := .dma (recvS 1)) (s := .dma (recvS 0)) (by decide), Nat.zero_add, Nat.add_zero]
         exact recv_tally 1 d c N
  | 2 => rw [tally_off (s' := .dma (recvS 2)) (s := .dma (recvS 1)) (by decide), tally_off (s' := .dma (recvS 2)) (s := .dma (recvS 0)) (by decide), Nat.add_zero]
         exact recv_tally 2 d c N

/-- So its barrier's credit is three units, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
/-- each receive's one block. -/
theorem launch_recv (c : Dev nD) (q : Fin 3) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q]
  simp only [Finset.sum_ite_eq', Finset.mem_univ, if_true]

/-- The launch's credit is what the device's waits are paid from. -/
theorem creds (c : Dev nD) : (Pipeline.launchCred O₀ c : sProp 𝕄) ⊢ credits c := by
  unfold Pipeline.launchCred credits
  rw [bigSep_univ_at _ (SemLoc.reg barS), launch_bar]
  refine sep_mono_right ?_
  rw [← launch_recv c 0, ← launch_recv c 1, ← launch_recv c 2,
    bigSep_erase (i := SemLoc.dma (recvS 0)) (by decide), bigSep_erase (i := SemLoc.dma (recvS 1)) (by decide)]
  exact sep_mono_right (sep_mono_right (bigSep_elim (by decide)))

/-! ## The side conditions -/

/-- What the launch leaves device `c` of its buffers, levels and credit is the body's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' xPts wPts
  iintro ⟨⟨Hx, Hw, Hg⟩, Hlev, Hcr, -, HG⟩
  ihave Hc := (creds (F := F) c) $$ Hcr
  imodintro
  isplitl
  · isplitl [HG]; · iexact HG
    isplitl [Hc]; · iexact Hc
    isplitl [Hlev]; · iexact Hlev
    isplitl [Hx]; · iexact Hx
    isplitl [Hw]; · iexact Hw
    iexists _; iexact Hg
  · iempintro

/-- With the scratch buffers, that is what the region starts from; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hb, Ht⟩
  isplitl [Hs]; · iexact Hs
  isplitl [Hb] <;> iassumption

/-- What the run leaves beside the result: the barrier's semaphore at zero, the operands as launched. -/
def left (c : Dev nD) : sProp 𝕄 := iprop(unscopedSems0 c ∗ xPts m c ∗ wPts m c)

/-- and what it ends at is that, its own semaphores at zero, and the scratch buffers. -/
theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq, ownSems0_eq]
  unfold Φ₁ left scr
  rw [unscopedSems0_eq]
  iintro ⟨Hx, Hw, Hs, Ho, HB⟩
  isplitl [Hx Hw HB]
  · isplitl [HB]; · iexact HB
    isplitl [Hx] <;> iassumption
  isplitl [Ho]; · iexact Ho
  iexact Hs

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The result array -/

set_option maxRecDepth 8000 in
/-- The result array after the run is the block the body left in its staging buffer. -/
theorem final_out (c : Dev nD) : (dats m 0 c).arrAt (0 : Fin 1) cfg0.N = outAt m c := by
  have hoff : (fun a => win0_0.index t0_0 a * main_v1_0.ty.shape.size a) = fun _ => 0 := funext (by decide +kernel)
  have hext : ∀ a, win0_0.index t0_0 a * win0_0.size a = 0 ∧ win0_0.xsize (grid0.coords t0_0) a = S2048x4096.size a := by decide +kernel
  refine (dats m 0 c).arrAt_eq_of_cover 0 (outAt m c) (fun t _ => ?_) (fun i => ⟨t0_0, flush0_0 t0_0, ?_⟩)
  · rw [fin_N0 t]
    exact (Memref.read_access_unit_zero (Elt F) main_v1_0 hoff (fun a => by rw [congrFun hoff a]; simp) (outAt m c)).symm
  · have e : ((cfg0.win 0).blk t0_0).view.set = (win0_0.rect t0_0).set := View.set_slice_whole main_v1_0 _
    refine (Iff.of_eq (congrArg (fun S : Finset S2048x4096.Idx => i ∈ S) e)).mpr (Rect.mem_set_unit.mpr fun a => ?_)
    exact ⟨le_of_eq_of_le (hext a).1 (Nat.zero_le _), lt_of_lt_of_eq (i a).isLt (show S2048x4096.size a = win0_0.index t0_0 a * win0_0.size a + win0_0.xsize (grid0.coords t0_0) a by
      rw [(hext a).1, Nat.zero_add, (hext a).2])⟩

/-! ## The run -/

set_option maxRecDepth 8000 in
/-- From any memory with zero counters every execution of the program ends, with each device's result array at its block of the result,
    both operands unchanged and every semaphore at zero. -/
theorem run : θ_run (defs (F := F)) (onTc (τ := τ) (main (F := F))) ⟨m, fun _ => 0, ρ⟩
    (fun r => (∀ c : Dev nD, r.2.mem ((c.tc : Thread nD τ).loc main_v1_0) = outAt m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (Entails.of_eq (show (BI.own (embR (initOf ringCells ringToks, (1 : Counters))) : sProp 𝕄) = BI.own (ER (initOf ringCells ringToks)) from rfl)) $$ HX
      imod (fund_ring m) $$ HX' with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ ∀ sm : SemLoc sig, sm.isScoped .tc = false → s.sem ((c.tc : Thread nD τ), sm) = 0)
    (hY := fun c s' => by
      unfold left xPts wPts
      iintro ⟨⟨Hu, Hx, Hw⟩, -, HSI⟩
      icombine HSI Hx gives %hx
      icombine HSI Hw gives %hw
      imod (Pipeline.unscopedSems0_read (X := unscopedSems0 c) (c := c) fupd_intro s') $$ [Hu HSI] with ⟨%hz, HSI⟩
      · isplitl [Hu] <;> iassumption
      imodintro
      isplitr
      · ipureintro
        exact ⟨Buf.eq_of_forall_mem_univ hx, Buf.eq_of_forall_mem_univ hw, hz⟩
      iexact HSI)
    (hQ := fun _ h hs => ⟨fun c => ⟨((h c).1 0).trans (final_out m c), (h c).2.2.1, (h c).2.2.2.1⟩, sem_eq_zero hs fun c => (h c).2.2.2.2⟩)

end Cert.KernelIdeal.Ring

end
-- ==== Proof.Value.lean ====
/-
The mathematics: over the extended reals the kernel's result is the reference's, block by block. A row of the result is
one sum over the contracted axis; the kernel takes it as four sums, one per device's columns, in the order the blocks arrive.
-/
module

public import proofs.«01_k».proof.Proof.BodyIdeal
public import proofs.«01_k».proof.Proof.Gen.ReferenceIdeal.Run
public import Idealize.ShloMosaic.Lib.Pointwise
public import Idealize.ShloMosaic.Lib.ValueIdx

@[expose] public section

noncomputable section

namespace Cert.KernelIdeal.Ring

open Cert.KernelIdeal Cert.KernelIdeal.Gen

open Idealize.ShloMosaic
open Idealize.ShloMosaic.TcCoe

variable (m : (ℓ : Loc nD τ sig) → Buf (Elt Ideal) ℓ)

/-! ## The blocks, read at an index -/

/-- Element `(r, k)` of row block `t` of device `s`'s operand. -/
theorem xBlk_apply (s t : Fin 4) (r k : Fin 2048) :
    xBlk m s t (ix2 r k) = m ((s : Thread nD τ).loc main_arg0) (ix2 ⟨2048 * t.val + r.val, by omega⟩ k : S8192x2048.Idx) := by
  refine congrArg (m ((s : Thread nD τ).loc main_arg0)) ?_
  funext a
  refine Fin.ext ((ValueKit.rect_emb_unit_val _ _ _ _ a).trans ?_)
  fin_cases a
  · rfl
  · exact Nat.zero_add _
/-- Element `(k, l)` of tile `t` of row block `j` of device `c`'s second operand. -/
theorem wBlk_apply (c j : Fin 4) (t : Fin 8) (k : Fin 2048) (l : Fin 512) :
    wBlk m c j t (ix2 k l)
      = m ((c : Thread nD τ).loc main_arg1) (ix2 ⟨2048 * j.val + k.val, by omega⟩ ⟨512 * t.val + l.val, by omega⟩ : S8192x4096.Idx) := by
  refine congrArg (m ((c : Thread nD τ).loc main_arg1)) ?_
  funext a
  refine Fin.ext ((ValueKit.rect_emb_unit_val _ _ _ _ a).trans ?_)
  fin_cases a <;> rfl

/-! ## The tiles' payloads -/

/-- A first loop's tile is the product, -/
theorem pay2_apply (X : Vec Ideal S2048x2048 .bf16) (W : Vec Ideal S2048x512 .f32) (r : Fin 2048) (l : Fin 512) :
    k0_pay2 X W (ix2 r l) = ∑ k : Fin 2048, (X (ix2 r k) * W (ix2 k l) : EReal) := by
  unfold k0_pay2
  pointwise
/-- a later loop's the product added to what is there. -/
theorem pay3_apply (X : Vec Ideal S2048x2048 .bf16) (W G : Vec Ideal S2048x512 .f32) (r : Fin 2048) (l : Fin 512) :
    k0_pay3 X W G (ix2 r l) = (G (ix2 r l) + ∑ k : Fin 2048, X (ix2 r k) * W (ix2 k l) : EReal) := by
  unfold k0_pay3
  pointwise
/-- The last step is the maximum with zero. -/
theorem pay1_apply (G : Vec Ideal S2048x4096 .f32) (i : S2048x4096.Idx) : k0_pay1 G i = (max (G i) 0 : EReal) := by
  unfold k0_pay1
  pointwise

/-! ## One device's share of a row's sum -/

variable (X : Vec Ideal Cert.ReferenceIdeal.S8192x8192 .bf16) (W : Vec Ideal S8192x4096 .f32)

/-- The share of device `s`'s columns in element `(r, n)` of device `c`'s block. -/
def part (c s : Fin 4) (r : Fin 2048) (n : Fin 4096) : EReal :=
  ∑ k : Fin 2048, (X (ix2 ⟨2048 * c.val + r.val, by omega⟩ ⟨2048 * s.val + k.val, by omega⟩) * W (ix2 ⟨2048 * s.val + k.val, by omega⟩ n) : EReal)

/-- The devices hold the operands: the first by blocks of columns, the second whole. -/
structure Holds : Prop where
  cols : ∀ s : Dev nD, m ((s : Thread nD τ).loc main_arg0) = Layout.block ⟨2, ![8192, 2048]⟩ ⟨2, ![8192, 8192]⟩ 1 4 s X
  whole : ∀ s : Dev nD, m ((s : Thread nD τ).loc main_arg1) = W

variable {m X W}

/-- A tile's product is that share. -/
theorem tile_part (h : Holds m X W) (c s : Fin 4) (t : Fin 8) (r : Fin 2048) (l : Fin 512) :
    (∑ k : Fin 2048, xBlk m s c (ix2 r k) * wBlk m c s t (ix2 k l) : EReal) = part X W c s r ⟨512 * t.val + l.val, by omega⟩ := by
  refine Finset.sum_congr rfl fun k _ => ?_
  rw [xBlk_apply, wBlk_apply, h.cols, h.whole]
  refine congrArg (fun z : EReal => z * _) (congrArg X ?_)
  funext a
  refine Fin.ext ?_
  fin_cases a
  · rfl
  · show s.val * 2048 + k.val = 2048 * s.val + k.val; omega

/-- The two ways of naming an index by its coordinates agree. -/
theorem idx_names {a b : ℕ} (i : Fin a) (j : Fin b) : ValueIdx.ix2 i j = ix2 i j := by
  funext x; fin_cases x <;> rfl

/-- Column `n` is column `n % 512` of tile `n / 512`. -/
theorem col_eq (n : Fin 4096) (h : 512 * (n.val / 512) + n.val % 512 < 4096) : (⟨512 * (n.val / 512) + n.val % 512, h⟩ : Fin 4096) = n :=
  Fin.ext (Nat.div_add_mod n.val 512)

/-- The first loop leaves the device's own share; -/
theorem prodAt_apply (h : Holds m X W) (c : Fin 4) (r : Fin 2048) (n : Fin 4096) :
    prodAt m (xBlk m c c) c c (ix2 r n) = part X W c c r n := by
  show k0_pay2 (xBlk m c c) (wBlk m c c ⟨n.val / 512, _⟩) (ValueIdx.ix2 r ⟨n.val % 512, _⟩) = _
  rw [idx_names, pay2_apply, tile_part h, col_eq]
/-- a later one adds another's. -/
theorem accAt_apply (h : Holds m X W) (c s : Fin 4) (G : Out Ideal) (r : Fin 2048) (n : Fin 4096) :
    accAt m (xBlk m s c) c s G (ix2 r n) = (G (ix2 r n) + part X W c s r n : EReal) := by
  show k0_pay3 (xBlk m s c) (wBlk m c s ⟨n.val / 512, _⟩) (tileOf G ⟨n.val / 512, _⟩) (ValueIdx.ix2 r ⟨n.val % 512, _⟩) = _
  rw [idx_names, pay3_apply, tile_part h, tileOf_apply, col_eq]
  refine congrArg (fun z : EReal => z + _) (congrArg G ?_)
  funext x
  fin_cases x
  · rfl
  · exact Fin.ext (Nat.div_add_mod n.val 512)

/-! ## The row's sum -/

/-- The contracted axis is the four devices' columns in turn. -/
theorem sum_split (f : Fin 8192 → EReal) : ∑ K, f K = ∑ s : Fin 4, ∑ k : Fin 2048, f ⟨2048 * s.val + k.val, by omega⟩ := by
  rw [← Fintype.sum_prod_type']
  refine (Equiv.sum_comp (finProdFinEquiv (m := 4) (n := 2048)) f).symm.trans (Finset.sum_congr rfl fun x _ => congrArg f (Fin.ext ?_))
  show x.2.val + 2048 * x.1.val = 2048 * x.1.val + x.2.val
  omega

/-- The devices in the order their blocks are used are all four. -/
theorem sum_order (c : Fin 4) (f : Fin 4 → EReal) : f c + f (rot 0 c) + f (rot 2 c) + f (rot 1 c) = ∑ s, f s := by
  rw [Fin.sum_univ_four]
  match c with
  | 0 => show f 0 + f 1 + f 3 + f 2 = _; abel
  | 1 => show f 1 + f 2 + f 0 + f 3 = _; abel
  | 2 => show f 2 + f 3 + f 1 + f 0 = _; abel
  | 3 => show f 3 + f 0 + f 2 + f 1 = _; abel

/-- The kernel's sum is the row's. -/
theorem sumAt_apply (h : Holds m X W) (c : Fin 4) (r : Fin 2048) (n : Fin 4096) :
    sumAt m c (ix2 r n) = (∑ K : Fin 8192, X (ix2 ⟨2048 * c.val + r.val, by omega⟩ K) * W (ix2 K n) : EReal) := by
  unfold sumAt
  rw [accAt_apply h, accAt_apply h, accAt_apply h, prodAt_apply h, sum_split]
  exact sum_order c fun s => part X W c s r n

/-! ## The reference -/

/-- The reference's result. -/
def refOut (X : Vec Ideal Cert.ReferenceIdeal.S8192x8192 .bf16) (W : Vec Ideal S8192x4096 .f32) : Vec Ideal S8192x4096 .f32 :=
  maximumf (extf .f32 (truncf .bf16 (Host.dotGeneral (F := Ideal) (φ₁ := .bf16) Cert.ReferenceIdeal.dot_S8192x8192_S8192x4096_S8192x4096_1_0_0_1_n_n none X
    (truncf .bf16 W Cert.ReferenceIdeal.Facts₀.bitsLt_bf16_f32)) Cert.ReferenceIdeal.Facts₀.bitsLt_bf16_f32) Cert.ReferenceIdeal.Facts₀.bitsLt_bf16_f32)
    (broadcastInDim Cert.ReferenceIdeal.S8192x4096 ![] Cert.ReferenceIdeal.Facts₀.bcast_S_S8192x4096 (constant Cert.ReferenceIdeal.S_ .f32 0x00000000#32))

/-- Read at an index: the row's sum, or zero if that is larger. -/
theorem refOut_apply (R : Fin 8192) (n : Fin 4096) :
    refOut X W (ix2 R n) = (max (∑ K : Fin 8192, X (ix2 R K) * W (ix2 K n)) 0 : EReal) := by
  unfold refOut
  pointwise

/-- Device `c`'s result is row block `c` of the reference's. -/
theorem outAt_eq (h : Holds m X W) (c : Fin 4) :
    outAt m c = Layout.block ⟨2, ![2048, 4096]⟩ ⟨2, ![8192, 4096]⟩ 0 4 c (refOut X W) := by
  funext i
  obtain ⟨r, n, rfl⟩ : ∃ (r : Fin 2048) (n : Fin 4096), i = ix2 r n := ⟨i 0, i 1, by funext x; fin_cases x <;> rfl⟩
  unfold outAt
  rw [pay1_apply, sumAt_apply h, ← refOut_apply]
  refine congrArg (refOut X W) ?_
  funext a
  refine Fin.ext ?_
  fin_cases a
  · show 2048 * c.val + r.val = c.val * 2048 + r.val; omega
  · rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.LaunchIdeal
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The program's frame: its run at the bit-exact floats, the result's contents dropped. -/
theorem frame_p : Cert.quiescent_Kernel := fun m ρ _ =>
  (θ_run Cert.Kernel.defs _ _).mono (fun r h => ⟨fun c => (h.1 c).2, h.2⟩) (Cert.Kernel.Ring.run (F := Bits) m ρ)

/-- The idealized program's frame: the same at the extended reals. -/
theorem frame_pi : Cert.quiescent_KernelIdeal := fun m ρ _ =>
  (θ_run Cert.KernelIdeal.defs _ _).mono (fun r h => ⟨fun c => (h.1 c).2, h.2⟩) (Cert.KernelIdeal.Ring.run (F := Ideal) m ρ)

/-- The reference's frame; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its row block of the reference's result. -/
theorem value : Cert.algebraic_KernelIdeal_ReferenceIdeal := by
  intro m ρ m' ρ' _ hm
  have h : Cert.KernelIdeal.Ring.Holds m (m' ((0 : Dev Cert.ReferenceIdeal.nD).tc.loc Cert.ReferenceIdeal.main_arg0))
      (m' ((0 : Dev Cert.ReferenceIdeal.nD).tc.loc Cert.ReferenceIdeal.main_arg1)) := ⟨fun c => (hm c).1, fun c => (hm c).2⟩
  exact ⟨_, (θ_run Cert.KernelIdeal.defs _ _).mono
      (fun r hr c => ⟨((hr.1 c).1).trans (Cert.KernelIdeal.Ring.outAt_eq h c), (hr.1 c).2⟩) (Cert.KernelIdeal.Ring.run (F := Ideal) m ρ),
    (θ_run Cert.ReferenceIdeal.defs _ _).mono (fun r hr => hr 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_p, frame_pi, frame_ri, trivial, value⟩

end Cert.Proof

end
